-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv15" .f32 0x3D888889#32 ((1 / 15 : ℝ) : EReal)

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4x2048x3 : Shape := ⟨3, ![4, 2048, 3]⟩
abbrev S4x2048x512 : Shape := ⟨3, ![4, 2048, 512]⟩
abbrev S10x32 : Shape := ⟨2, ![10, 32]⟩
abbrev S32 : Shape := ⟨1, ![32]⟩
abbrev S32x16 : Shape := ⟨2, ![32, 16]⟩
abbrev S16 : Shape := ⟨1, ![16]⟩
abbrev S528x64 : Shape := ⟨2, ![528, 64]⟩
abbrev S64 : Shape := ⟨1, ![64]⟩
abbrev S64x1 : Shape := ⟨2, ![64, 1]⟩
abbrev S1 : Shape := ⟨1, ![1]⟩
abbrev S512x512 : Shape := ⟨2, ![512, 512]⟩
abbrev S512 : Shape := ⟨1, ![512]⟩
abbrev S4x3x2048 : Shape := ⟨3, ![4, 3, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x17 : Shape := ⟨3, ![4, 2048, 17]⟩
abbrev S4x2048x16 : Shape := ⟨3, ![4, 2048, 16]⟩

class Facts : Prop where
  transposes_S4x2048x3_S4x3x2048_0_2_1 : S4x2048x3.Transposes [0, 2, 1] S4x3x2048
  bcast_S_S4x2048x2048 : S_.BroadcastsInDim S4x2048x2048 (![] : Fin 0 → Fin S4x2048x2048.rank)
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1_S4x1x2048_0_2_1 : S4x2048x1.Transposes [0, 2, 1] S4x1x2048
  bcast_S4x1x2048_S4x2048x2048_0_1_2 : S4x1x2048.BroadcastsInDim S4x2048x2048 (![0, 1, 2] : Fin 3 → Fin S4x2048x2048.rank)
  sliceFits_S4x2048x2048_S4x2048x17 : S4x2048x2048.Slices (fun _ => 0) S4x2048x17
  slices_S4x2048x17_S4x2048x16_0_0_1 : S4x2048x17.Slices ![0, 0, 1] S4x2048x16
  slices_S4x2048x17_S4x2048x16_0_0_0 : S4x2048x17.Slices ![0, 0, 0] S4x2048x16
  dot_S4x2048x3_S4x3x2048_S4x2048x2048_2_1_1_2_0_0_wf : DotDims.WF S4x2048x3 S4x3x2048 S4x2048x2048 [2] [1] [1] [2] [0] [0]

variable [Facts]

def dot_S4x2048x3_S4x3x2048_S4x2048x2048_2_1_1_2_0_0 : DotDims S4x2048x3 S4x3x2048 S4x2048x2048 where
  lhsContracting := [2]
  rhsContracting := [1]
  lhsNonContracting := [1]
  rhsNonContracting := [2]
  lhsBatch := [0]
  rhsBatch := [0]
  wf := dot_S4x2048x3_S4x3x2048_S4x2048x2048_2_1_1_2_0_0_wf
def fn {F : FTy → Type} [FloatOps F] (main_arg0 : FVec F S4x2048x3 .f32) (main_arg1 : FVec F S4x2048x512 .f32) (main_arg2 : FVec F S10x32 .f32) (main_arg3 : FVec F S32 .f32) (main_arg4 : FVec F S32 .f32) (main_arg5 : FVec F S32 .f32) (main_arg6 : FVec F S32x16 .f32) (main_arg7 : FVec F S16 .f32) (main_arg8 : FVec F S528x64 .f32) (main_arg9 : FVec F S64 .f32) (main_arg10 : FVec F S64 .f32) (main_arg11 : FVec F S64 .f32) (main_arg12 : FVec F S64x1 .f32) (main_arg13 : FVec F S1 .f32) (main_arg14 : FVec F S512x512 .f32) (main_arg15 : FVec F S512 .f32) (main_arg16 : FVec F S512 .f32) (main_arg17 : FVec F S512 .f32) : IVec S4x2048x16 1 :=
  let main_v0 : FVec F S4x3x2048 .f32 := (transpose S4x3x2048 [0, 2, 1] · transposes_S4x2048x3_S4x3x2048_0_2_1) main_arg0
  let main_v1 : FVec F S4x2048x2048 .f32 := (fun l r => Host.dotGeneral dot_S4x2048x3_S4x3x2048_S4x2048x2048_2_1_1_2_0_0 none l r) main_arg0 main_v0
  let main_cst : FVec F S_ .f32 := constant S_ .f32 0xC0000000#32
  let main_v2 : FVec F S4x2048x2048 .f32 := broadcastInDim S4x2048x2048 ![] bcast_S_S4x2048x2048 main_cst
  let main_v3 : FVec F S4x2048x2048 .f32 := mulf main_v2 main_v1
  let main_v4 : FVec F S4x2048x3 .f32 := mulf main_arg0 main_arg0
  let main_cst_0 : FVec F S_ .f32 := constant S_ .f32 0x00000000#32
  let main_v5 : FVec F S4x2048 .f32 := (fun x v => Host.reduceAdd x v reducesTo_S4x2048x3_S4x2048_d2 h_S_) main_v4 main_cst_0
  let main_v6 : FVec F S4x2048x1 .f32 := broadcastInDim S4x2048x1 ![0, 1] bcast_S4x2048_S4x2048x1_0_1 main_v5
  let main_v7 : FVec F S4x2048x1 .f32 := Host.negf main_v6
  let main_v8 : FVec F S4x2048x2048 .f32 := broadcastInDim S4x2048x2048 ![0, 1, 2] bcast_S4x2048x1_S4x2048x2048_0_1_2 main_v7
  let main_v9 : FVec F S4x2048x2048 .f32 := subf main_v8 main_v3
  let main_v10 : FVec F S4x1x2048 .f32 := (transpose S4x1x2048 [0, 2, 1] · transposes_S4x2048x1_S4x1x2048_0_2_1) main_v6
  let main_v11 : FVec F S4x2048x2048 .f32 := broadcastInDim S4x2048x2048 ![0, 1, 2] bcast_S4x1x2048_S4x2048x2048_0_1_2 main_v10
  let main_v12 : FVec F S4x2048x2048 .f32 := subf main_v9 main_v11
  let main_values : FVec F S4x2048x17 .f32 := (fun x => (Host.topK S4x2048x17 2 (FloatOps.cmpfTotal .gt) x sliceFits_S4x2048x2048_S4x2048x17).1) main_v12
  let main_indices : IVec S4x2048x17 32 := (fun x => (Host.topK S4x2048x17 2 (FloatOps.cmpfTotal .gt) x sliceFits_S4x2048x2048_S4x2048x17).2) main_v12
  let main_v13 : FVec F S4x2048x16 .f32 := (extractStridedSlice S4x2048x16 ![0, 0, 1] · slices_S4x2048x17_S4x2048x16_0_0_1) main_values
  let main_v14 : FVec F S4x2048x16 .f32 := (extractStridedSlice S4x2048x16 ![0, 0, 0] · slices_S4x2048x17_S4x2048x16_0_0_0) main_values
  let main_v15 : IVec S4x2048x16 1 := cmpf .olt main_v13 main_v14
  main_v15
-- ==== Kernel.lean ====
abbrev S4x2048x3 : Shape := ⟨3, ![4, 2048, 3]⟩
abbrev S4x2048x512 : Shape := ⟨3, ![4, 2048, 512]⟩
abbrev S10x32 : Shape := ⟨2, ![10, 32]⟩
abbrev S32 : Shape := ⟨1, ![32]⟩
abbrev S32x16 : Shape := ⟨2, ![32, 16]⟩
abbrev S16 : Shape := ⟨1, ![16]⟩
abbrev S528x64 : Shape := ⟨2, ![528, 64]⟩
abbrev S64 : Shape := ⟨1, ![64]⟩
abbrev S64x1 : Shape := ⟨2, ![64, 1]⟩
abbrev S1 : Shape := ⟨1, ![1]⟩
abbrev S512x512 : Shape := ⟨2, ![512, 512]⟩
abbrev S512 : Shape := ⟨1, ![512]⟩
abbrev S_ : Shape := ⟨0, ![]⟩
abbrev S4x2048x8 : Shape := ⟨3, ![4, 2048, 8]⟩
abbrev S4x8x2048 : Shape := ⟨3, ![4, 8, 2048]⟩
abbrev S4x2048x16 : Shape := ⟨3, ![4, 2048, 16]⟩
abbrev S16x32 : Shape := ⟨2, ![16, 32]⟩
abbrev S512x64 : Shape := ⟨2, ![512, 64]⟩
abbrev S16x64 : Shape := ⟨2, ![16, 64]⟩
abbrev S1x64 : Shape := ⟨2, ![1, 64]⟩
abbrev S1x1 : Shape := ⟨2, ![1, 1]⟩
abbrev S1x32 : Shape := ⟨2, ![1, 32]⟩
abbrev S1x16 : Shape := ⟨2, ![1, 16]⟩
abbrev S1x512 : Shape := ⟨2, ![1, 512]⟩
abbrev S4x2048x1 : Shape := ⟨3, ![4, 2048, 1]⟩
abbrev S1x256x8 : Shape := ⟨3, ![1, 256, 8]⟩
abbrev S1x8x2048 : Shape := ⟨3, ![1, 8, 2048]⟩
abbrev S1x2048x16 : Shape := ⟨3, ![1, 2048, 16]⟩
abbrev S1x256x512 : Shape := ⟨3, ![1, 256, 512]⟩
abbrev S1x256x1 : Shape := ⟨3, ![1, 256, 1]⟩
abbrev S256x8 : Shape := ⟨2, ![256, 8]⟩
abbrev S8x2048 : Shape := ⟨2, ![8, 2048]⟩
abbrev S2048x16 : Shape := ⟨2, ![2048, 16]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x16 : Shape := ⟨2, ![256, 16]⟩
abbrev S256x6 : Shape := ⟨2, ![256, 6]⟩
abbrev S256x32 : Shape := ⟨2, ![256, 32]⟩
abbrev S256x64 : Shape := ⟨2, ![256, 64]⟩

abbrev nBuf : Space → Nat
  | .hbm => 43
  | .vmem => 29
  | .smem => 0
  | _ => 0

abbrev bufTy : (tb : Table) → Fin (tcTables nBuf tb) → BufTy
  | .hbm, ⟨0, _⟩ => ⟨S4x2048x3, .f32⟩
  | .hbm, ⟨1, _⟩ => ⟨S4x2048x512, .f32⟩
  | .hbm, ⟨2, _⟩ => ⟨S10x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S528x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S512x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S4x2048x8, .f32⟩
  | .hbm, ⟨21, _⟩ => ⟨S4x8x2048, .f32⟩
  | .hbm, ⟨22, _⟩ => ⟨S4x2048x8, .f32⟩
  | .hbm, ⟨23, _⟩ => ⟨S4x2048x16, .f32⟩
  | .hbm, ⟨24, _⟩ => ⟨S_, .i32⟩
  | .hbm, ⟨25, _⟩ => ⟨S_, .f32⟩
  | .hbm, ⟨26, _⟩ => ⟨S16x32, .f32⟩
  | .hbm, ⟨27, _⟩ => ⟨S512x64, .f32⟩
  | .hbm, ⟨28, _⟩ => ⟨S16x64, .f32⟩
  | .hbm, ⟨29, _⟩ => ⟨S1x64, .f32⟩
  | .hbm, ⟨30, _⟩ => ⟨S1x1, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S1x16, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S4x2048x512, .f32⟩
  | .hbm, ⟨42, _⟩ => ⟨S4x2048x1, .f32⟩
  | .local _ .vmem, ⟨0, _⟩ => ⟨S1x256x8, .f32⟩
  | .local _ .vmem, ⟨1, _⟩ => ⟨S1x256x8, .f32⟩
  | .local _ .vmem, ⟨2, _⟩ => ⟨S1x8x2048, .f32⟩
  | .local _ .vmem, ⟨3, _⟩ => ⟨S1x8x2048, .f32⟩
  | .local _ .vmem, ⟨4, _⟩ => ⟨S1x2048x16, .f32⟩
  | .local _ .vmem, ⟨5, _⟩ => ⟨S1x2048x16, .f32⟩
  | .local _ .vmem, ⟨6, _⟩ => ⟨S1x256x512, .f32⟩
  | .local _ .vmem, ⟨7, _⟩ => ⟨S1x256x512, .f32⟩
  | .local _ .vmem, ⟨8, _⟩ => ⟨S16x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S32x16, .f32⟩
  | .local _ .vmem, ⟨13, _⟩ => ⟨S1x16, .f32⟩
  | .local _ .vmem, ⟨14, _⟩ => ⟨S512x64, .f32⟩
  | .local _ .vmem, ⟨15, _⟩ => ⟨S16x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x1, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x256x512, .f32⟩
  | .local _ .vmem, ⟨26, _⟩ => ⟨S1x256x512, .f32⟩
  | .local _ .vmem, ⟨27, _⟩ => ⟨S1x256x1, .f32⟩
  | .local _ .vmem, ⟨28, _⟩ => ⟨S1x256x1, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_call0_v0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem22_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KernelIdeal.lean ====
variable {F : FTy → Type} [FloatOps F] [Named F]
def κ : String → Option EReal := fun
  | "inv15" => some ((1 / 15 : ℝ) : EReal)
  | _ => none
-- ==== ReferenceIdeal.lean ====
abbrev S4x2048x3 : Shape := ⟨3, ![4, 2048, 3]⟩
abbrev S4x2048x512 : Shape := ⟨3, ![4, 2048, 512]⟩
abbrev S10x32 : Shape := ⟨2, ![10, 32]⟩
abbrev S32 : Shape := ⟨1, ![32]⟩
abbrev S32x16 : Shape := ⟨2, ![32, 16]⟩
abbrev S16 : Shape := ⟨1, ![16]⟩
abbrev S528x64 : Shape := ⟨2, ![528, 64]⟩
abbrev S64 : Shape := ⟨1, ![64]⟩
abbrev S64x1 : Shape := ⟨2, ![64, 1]⟩
abbrev S1 : Shape := ⟨1, ![1]⟩
abbrev S512x512 : Shape := ⟨2, ![512, 512]⟩
abbrev S512 : Shape := ⟨1, ![512]⟩
abbrev S4x3x2048 : Shape := ⟨3, ![4, 3, 2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x16 : Shape := ⟨3, ![4, 2048, 16]⟩
abbrev S4 : Shape := ⟨1, ![4]⟩
abbrev S4x1x1 : Shape := ⟨3, ![4, 1, 1]⟩
abbrev S4x2048x16x1 : Shape := ⟨4, ![4, 2048, 16, 1]⟩
abbrev S4x2048x16x2 : Shape := ⟨4, ![4, 2048, 16, 2]⟩
abbrev S4x2048x16x3 : Shape := ⟨4, ![4, 2048, 16, 3]⟩
abbrev S4x2048x1x3 : Shape := ⟨4, ![4, 2048, 1, 3]⟩
abbrev S4x2048x3x16 : Shape := ⟨4, ![4, 2048, 3, 16]⟩
abbrev S4x2048x3x3 : Shape := ⟨4, ![4, 2048, 3, 3]⟩
abbrev S4x2048x1x1 : Shape := ⟨4, ![4, 2048, 1, 1]⟩
abbrev S4x2048x10 : Shape := ⟨3, ![4, 2048, 10]⟩
abbrev S4x2048x32 : Shape := ⟨3, ![4, 2048, 32]⟩
abbrev S1x1x32 : Shape := ⟨3, ![1, 1, 32]⟩
abbrev S1x1x16 : Shape := ⟨3, ![1, 1, 16]⟩
abbrev S4x2048x528 : Shape := ⟨3, ![4, 2048, 528]⟩
abbrev S4x2048x64 : Shape := ⟨3, ![4, 2048, 64]⟩
abbrev S1x1x64 : Shape := ⟨3, ![1, 1, 64]⟩
abbrev S1x1x1 : Shape := ⟨3, ![1, 1, 1]⟩
abbrev S1x1x512 : Shape := ⟨3, ![1, 1, 512]⟩

abbrev nBuf : Space → Nat
  | .hbm => 314
  | .vmem => 0
  | .smem => 0
  | _ => 0

abbrev hbmTy0_0 (i : Nat) : BufTy := match i % 128 with
  | 0 => ⟨S4x2048x3, .f32⟩
  | 1 => ⟨S4x2048x512, .f32⟩
  | 2 => ⟨S10x32, .f32⟩
  | 3 => ⟨S32, .f32⟩
  | 4 => ⟨S32, .f32⟩
  | 5 => ⟨S32, .f32⟩
  | 6 => ⟨S32x16, .f32⟩
  | 7 => ⟨S16, .f32⟩
  | 8 => ⟨S528x64, .f32⟩
  | 9 => ⟨S64, .f32⟩
  | 10 => ⟨S64, .f32⟩
  | 11 => ⟨S64, .f32⟩
  | 12 => ⟨S64x1, .f32⟩
  | 13 => ⟨S1, .f32⟩
  | 14 => ⟨S512x512, .f32⟩
  | 15 => ⟨S512, .f32⟩
  | 16 => ⟨S512, .f32⟩
  | 17 => ⟨S512, .f32⟩
  | 18 => ⟨S4x3x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x3, .f32⟩
  | 24 => ⟨S_, .f32⟩
  | 25 => ⟨S4x2048, .f32⟩
  | 26 => ⟨S4x2048x1, .f32⟩
  | 27 => ⟨S4x2048x1, .f32⟩
  | 28 => ⟨S4x2048x2048, .f32⟩
  | 29 => ⟨S4x2048x2048, .f32⟩
  | 30 => ⟨S4x1x2048, .f32⟩
  | 31 => ⟨S4x2048x2048, .f32⟩
  | 32 => ⟨S4x2048x2048, .f32⟩
  | 33 => ⟨S4x2048x16, .f32⟩
  | 34 => ⟨S4x2048x16, .i32⟩
  | 35 => ⟨S4, .i32⟩
  | 36 => ⟨S4x1x1, .i32⟩
  | 37 => ⟨S_, .i32⟩
  | 38 => ⟨S4x1x1, .i32⟩
  | 39 => ⟨S4x1x1, .i1⟩
  | 40 => ⟨S_, .i32⟩
  | 41 => ⟨S4x1x1, .i32⟩
  | 42 => ⟨S4x1x1, .i32⟩
  | 43 => ⟨S4x1x1, .i32⟩
  | 44 => ⟨S_, .i32⟩
  | 45 => ⟨S4x2048x16, .i32⟩
  | 46 => ⟨S4x2048x16, .i1⟩
  | 47 => ⟨S_, .i32⟩
  | 48 => ⟨S4x2048x16, .i32⟩
  | 49 => ⟨S4x2048x16, .i32⟩
  | 50 => ⟨S4x2048x16, .i32⟩
  | 51 => ⟨S4x2048x16, .i32⟩
  | 52 => ⟨S4x2048x16x1, .i32⟩
  | 53 => ⟨S4x2048x16x1, .i32⟩
  | 54 => ⟨S4x2048x16x2, .i32⟩
  | 55 => ⟨S4x2048x16x3, .f32⟩
  | 56 => ⟨S_, .f32⟩
  | 57 => ⟨S4x2048x3, .f32⟩
  | 58 => ⟨S_, .f32⟩
  | 59 => ⟨S4x2048x3, .f32⟩
  | 60 => ⟨S4x2048x3, .f32⟩
  | 61 => ⟨S4x2048x1x3, .f32⟩
  | 62 => ⟨S4x2048x16x3, .f32⟩
  | 63 => ⟨S4x2048x16x3, .f32⟩
  | 64 => ⟨S4x2048x3x16, .f32⟩
  | 65 => ⟨S4x2048x3x3, .f32⟩
  | 66 => ⟨S_, .f32⟩
  | 67 => ⟨S4x2048x3x3, .f32⟩
  | 68 => ⟨S4x2048x3x3, .f32⟩
  | 69 => ⟨S4x2048x1x1, .f32⟩
  | 70 => ⟨S4x2048, .f32⟩
  | 71 => ⟨S4x2048x1x1, .f32⟩
  | 72 => ⟨S4x2048, .f32⟩
  | 73 => ⟨S4x2048, .f32⟩
  | 74 => ⟨S4x2048x1x1, .f32⟩
  | 75 => ⟨S4x2048, .f32⟩
  | 76 => ⟨S4x2048, .f32⟩
  | 77 => ⟨S4x2048x1x1, .f32⟩
  | 78 => ⟨S4x2048, .f32⟩
  | 79 => ⟨S4x2048x1x1, .f32⟩
  | 80 => ⟨S4x2048, .f32⟩
  | 81 => ⟨S4x2048, .f32⟩
  | 82 => ⟨S4x2048x1x1, .f32⟩
  | 83 => ⟨S4x2048, .f32⟩
  | 84 => ⟨S4x2048, .f32⟩
  | 85 => ⟨S_, .f32⟩
  | 86 => ⟨S4x2048, .f32⟩
  | 87 => ⟨S4x2048, .f32⟩
  | 88 => ⟨S4x2048x16x1, .f32⟩
  | 89 => ⟨S4x2048x16, .f32⟩
  | 90 => ⟨S_, .f32⟩
  | 91 => ⟨S4x2048, .f32⟩
  | 92 => ⟨S4x2048x1, .f32⟩
  | 93 => ⟨S_, .f32⟩
  | 94 => ⟨S4x2048x1, .f32⟩
  | 95 => ⟨S4x2048x1, .f32⟩
  | 96 => ⟨S4x2048x16, .f32⟩
  | 97 => ⟨S4x2048x16, .f32⟩
  | 98 => ⟨S4x2048x16, .f32⟩
  | 99 => ⟨S_, .f32⟩
  | 100 => ⟨S4x2048, .f32⟩
  | 101 => ⟨S_, .f32⟩
  | 102 => ⟨S4x2048, .f32⟩
  | 103 => ⟨S4x2048, .f32⟩
  | 104 => ⟨S4x2048, .f32⟩
  | 105 => ⟨S4x2048x16x1, .f32⟩
  | 106 => ⟨S4x2048x16, .f32⟩
  | 107 => ⟨S_, .f32⟩
  | 108 => ⟨S4x2048, .f32⟩
  | 109 => ⟨S4x2048x1, .f32⟩
  | 110 => ⟨S_, .f32⟩
  | 111 => ⟨S4x2048x1, .f32⟩
  | 112 => ⟨S4x2048x1, .f32⟩
  | 113 => ⟨S4x2048x16, .f32⟩
  | 114 => ⟨S4x2048x16, .f32⟩
  | 115 => ⟨S4x2048x16, .f32⟩
  | 116 => ⟨S_, .f32⟩
  | 117 => ⟨S4x2048, .f32⟩
  | 118 => ⟨S_, .f32⟩
  | 119 => ⟨S4x2048, .f32⟩
  | 120 => ⟨S4x2048, .f32⟩
  | 121 => ⟨S4x2048, .f32⟩
  | 122 => ⟨S4x2048x16x1, .f32⟩
  | 123 => ⟨S4x2048x16, .f32⟩
  | 124 => ⟨S_, .f32⟩
  | 125 => ⟨S4x2048, .f32⟩
  | 126 => ⟨S4x2048x1, .f32⟩
  | 127 => ⟨S_, .f32⟩
  | _ => ⟨S4x2048x3, .f32⟩

abbrev hbmTy0_1 (i : Nat) : BufTy := match i % 128 with
  | 0 => ⟨S4x2048x1, .f32⟩
  | 1 => ⟨S4x2048x1, .f32⟩
  | 2 => ⟨S4x2048x16, .f32⟩
  | 3 => ⟨S4x2048x16, .f32⟩
  | 4 => ⟨S4x2048x16, .f32⟩
  | 5 => ⟨S_, .f32⟩
  | 6 => ⟨S4x2048, .f32⟩
  | 7 => ⟨S_, .f32⟩
  | 8 => ⟨S4x2048, .f32⟩
  | 9 => ⟨S4x2048, .f32⟩
  | 10 => ⟨S4x2048, .f32⟩
  | 11 => ⟨S4x2048x16x3, .f32⟩
  | 12 => ⟨S_, .f32⟩
  | 13 => ⟨S4x2048x16, .f32⟩
  | 14 => ⟨S4x2048x16, .f32⟩
  | 15 => ⟨S_, .f32⟩
  | 16 => ⟨S4x2048, .f32⟩
  | 17 => ⟨S_, .f32⟩
  | 18 => ⟨S4x2048, .f32⟩
  | 19 => ⟨S4x2048, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x16, .f32⟩
  | 27 => ⟨S4x2048x16, .f32⟩
  | 28 => ⟨S4x2048x16, .f32⟩
  | 29 => ⟨S_, .f32⟩
  | 30 => ⟨S4x2048, .f32⟩
  | 31 => ⟨S_, .f32⟩
  | 32 => ⟨S4x2048, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S4x2048x1, .f32⟩
  | 48 => ⟨S4x2048x1, .f32⟩
  | 49 => ⟨S4x2048x1, .f32⟩
  | 50 => ⟨S4x2048x1, .f32⟩
  | 51 => ⟨S4x2048x1, .f32⟩
  | 52 => ⟨S4x2048x1, .f32⟩
  | 53 => ⟨S4x2048x1, .f32⟩
  | 54 => ⟨S4x2048x1, .f32⟩
  | 55 => ⟨S4x2048x1, .f32⟩
  | 56 => ⟨S4x2048x1, .f32⟩
  | 57 => ⟨S4x2048x10, .f32⟩
  | 58 => ⟨S4x2048x32, .f32⟩
  | 59 => ⟨S1x1x32, .f32⟩
  | 60 => ⟨S4x2048x32, .f32⟩
  | 61 => ⟨S4x2048x32, .f32⟩
  | 62 => ⟨S_, .f32⟩
  | 63 => ⟨S4x2048, .f32⟩
  | 64 => ⟨S4x2048x1, .f32⟩
  | 65 => ⟨S_, .f32⟩
  | 66 => ⟨S4x2048x1, .f32⟩
  | 67 => ⟨S4x2048x1, .f32⟩
  | 68 => ⟨S4x2048x32, .f32⟩
  | 69 => ⟨S4x2048x32, .f32⟩
  | 70 => ⟨S4x2048x32, .f32⟩
  | 71 => ⟨S_, .f32⟩
  | 72 => ⟨S4x2048, .f32⟩
  | 73 => ⟨S4x2048x1, .f32⟩
  | 74 => ⟨S_, .f32⟩
  | 75 => ⟨S4x2048x1, .f32⟩
  | 76 => ⟨S4x2048x1, .f32⟩
  | 77 => ⟨S4x2048x32, .f32⟩
  | 78 => ⟨S4x2048x32, .f32⟩
  | 79 => ⟨S_, .f32⟩
  | 80 => ⟨S4x2048x1, .f32⟩
  | 81 => ⟨S4x2048x1, .f32⟩
  | 82 => ⟨S4x2048x1, .f32⟩
  | 83 => ⟨S4x2048x32, .f32⟩
  | 84 => ⟨S4x2048x32, .f32⟩
  | 85 => ⟨S1x1x32, .f32⟩
  | 86 => ⟨S4x2048x32, .f32⟩
  | 87 => ⟨S4x2048x32, .f32⟩
  | 88 => ⟨S1x1x32, .f32⟩
  | 89 => ⟨S4x2048x32, .f32⟩
  | 90 => ⟨S4x2048x32, .f32⟩
  | 91 => ⟨S_, .f32⟩
  | 92 => ⟨S4x2048x32, .f32⟩
  | 93 => ⟨S4x2048x32, .f32⟩
  | 94 => ⟨S4x2048x16, .f32⟩
  | 95 => ⟨S1x1x16, .f32⟩
  | 96 => ⟨S4x2048x16, .f32⟩
  | 97 => ⟨S4x2048x16, .f32⟩
  | 98 => ⟨S4x2048x528, .f32⟩
  | 99 => ⟨S4x2048x64, .f32⟩
  | 100 => ⟨S1x1x64, .f32⟩
  | 101 => ⟨S4x2048x64, .f32⟩
  | 102 => ⟨S4x2048x64, .f32⟩
  | 103 => ⟨S_, .f32⟩
  | 104 => ⟨S4x2048, .f32⟩
  | 105 => ⟨S4x2048x1, .f32⟩
  | 106 => ⟨S_, .f32⟩
  | 107 => ⟨S4x2048x1, .f32⟩
  | 108 => ⟨S4x2048x1, .f32⟩
  | 109 => ⟨S4x2048x64, .f32⟩
  | 110 => ⟨S4x2048x64, .f32⟩
  | 111 => ⟨S4x2048x64, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x64, .f32⟩
  | 119 => ⟨S4x2048x64, .f32⟩
  | 120 => ⟨S_, .f32⟩
  | 121 => ⟨S4x2048x1, .f32⟩
  | 122 => ⟨S4x2048x1, .f32⟩
  | 123 => ⟨S4x2048x1, .f32⟩
  | 124 => ⟨S4x2048x64, .f32⟩
  | 125 => ⟨S4x2048x64, .f32⟩
  | 126 => ⟨S1x1x64, .f32⟩
  | 127 => ⟨S4x2048x64, .f32⟩
  | _ => ⟨S4x2048x3, .f32⟩

abbrev hbmTy0_2 (i : Nat) : BufTy := match i % 128 with
  | 0 => ⟨S4x2048x64, .f32⟩
  | 1 => ⟨S1x1x64, .f32⟩
  | 2 => ⟨S4x2048x64, .f32⟩
  | 3 => ⟨S4x2048x64, .f32⟩
  | 4 => ⟨S_, .f32⟩
  | 5 => ⟨S4x2048x64, .f32⟩
  | 6 => ⟨S4x2048x64, .f32⟩
  | 7 => ⟨S4x2048x1, .f32⟩
  | 8 => ⟨S1x1x1, .f32⟩
  | 9 => ⟨S4x2048x1, .f32⟩
  | 10 => ⟨S4x2048x1, .f32⟩
  | 11 => ⟨S4x2048x1, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x512, .f32⟩
  | 20 => ⟨S1x1x512, .f32⟩
  | 21 => ⟨S4x2048x512, .f32⟩
  | 22 => ⟨S4x2048x512, .f32⟩
  | 23 => ⟨S_, .f32⟩
  | 24 => ⟨S4x2048, .f32⟩
  | 25 => ⟨S4x2048x1, .f32⟩
  | 26 => ⟨S_, .f32⟩
  | 27 => ⟨S4x2048x1, .f32⟩
  | 28 => ⟨S4x2048x1, .f32⟩
  | 29 => ⟨S4x2048x512, .f32⟩
  | 30 => ⟨S4x2048x512, .f32⟩
  | 31 => ⟨S4x2048x512, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S4x2048x512, .f32⟩
  | 39 => ⟨S4x2048x512, .f32⟩
  | 40 => ⟨S_, .f32⟩
  | 41 => ⟨S4x2048x1, .f32⟩
  | 42 => ⟨S4x2048x1, .f32⟩
  | 43 => ⟨S4x2048x1, .f32⟩
  | 44 => ⟨S4x2048x512, .f32⟩
  | 45 => ⟨S4x2048x512, .f32⟩
  | 46 => ⟨S1x1x512, .f32⟩
  | 47 => ⟨S4x2048x512, .f32⟩
  | 48 => ⟨S4x2048x512, .f32⟩
  | 49 => ⟨S1x1x512, .f32⟩
  | 50 => ⟨S4x2048x512, .f32⟩
  | 51 => ⟨S4x2048x512, .f32⟩
  | 52 => ⟨S_, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | _ => ⟨S4x2048x3, .f32⟩

abbrev hbmTy (i : Nat) : BufTy := match i / 128 with
  | 0 => hbmTy0_0 i
  | 1 => hbmTy0_1 i
  | 2 => hbmTy0_2 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_values : Ref sig .tc := ⟨.hbm, 33, rfl⟩
abbrev main_indices : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_cst_13 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_cst_21 : Ref sig .tc := ⟨.hbm, 143, rfl⟩
abbrev main_v100 : Ref sig .tc := ⟨.hbm, 144, rfl⟩
abbrev main_cst_22 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_v103 : Ref sig .tc := ⟨.hbm, 149, rfl⟩
abbrev main_v104 : Ref sig .tc := ⟨.hbm, 150, rfl⟩
abbrev main_cst_24 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_cst_26 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_28 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_29 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_30 : Ref sig .tc := ⟨.hbm, 190, rfl⟩
abbrev main_v138 : Ref sig .tc := ⟨.hbm, 191, rfl⟩
abbrev main_v139 : Ref sig .tc := ⟨.hbm, 192, rfl⟩
abbrev main_cst_31 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_32 : Ref sig .tc := ⟨.hbm, 199, rfl⟩
abbrev main_v145 : Ref sig .tc := ⟨.hbm, 200, rfl⟩
abbrev main_v146 : Ref sig .tc := ⟨.hbm, 201, rfl⟩
abbrev main_cst_33 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_34 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_cst_35 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_36 : Ref sig .tc := ⟨.hbm, 231, rfl⟩
abbrev main_v173 : Ref sig .tc := ⟨.hbm, 232, rfl⟩
abbrev main_v174 : Ref sig .tc := ⟨.hbm, 233, rfl⟩
abbrev main_cst_37 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_cst_38 : Ref sig .tc := ⟨.hbm, 240, rfl⟩
abbrev main_v180 : Ref sig .tc := ⟨.hbm, 241, rfl⟩
abbrev main_v181 : Ref sig .tc := ⟨.hbm, 242, rfl⟩
abbrev main_cst_39 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_cst_40 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_41 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_42 : Ref sig .tc := ⟨.hbm, 269, rfl⟩
abbrev main_v205 : Ref sig .tc := ⟨.hbm, 270, rfl⟩
abbrev main_v206 : Ref sig .tc := ⟨.hbm, 271, rfl⟩
abbrev main_cst_43 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_cst_44 : Ref sig .tc := ⟨.hbm, 279, rfl⟩
abbrev main_v213 : Ref sig .tc := ⟨.hbm, 280, rfl⟩
abbrev main_v214 : Ref sig .tc := ⟨.hbm, 281, rfl⟩
abbrev main_cst_45 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_cst_46 : Ref sig .tc := ⟨.hbm, 288, rfl⟩
abbrev main_v220 : Ref sig .tc := ⟨.hbm, 289, rfl⟩
abbrev main_v221 : Ref sig .tc := ⟨.hbm, 290, rfl⟩
abbrev main_cst_47 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_48 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_cst_49 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩

abbrev nD : Nat := 1
abbrev τ : Topo := Topo.v7x

variable {F : FTy → Type} [FloatOps F]
-- ==== Proof.Tail.lean ====
/- What both programs do to one point once its ten neighbourhood statistics are known: a two-layer network on the
   statistics, a gate from the point's features and that network, and the gated residual branch. Every function
   here is of one row: no array, no tile. -/
module

public import Idealize.ShloMosaic.Lib.Pointwise

@[expose] public section

noncomputable section

namespace Cert.Geo

open Idealize.ShloMosaic
open scoped BigOperators

/-- The mean of a row, `c` the count as the programs write it. -/
def mean {n : ℕ} (c : EReal) (x : Fin n → EReal) : EReal := Ideal.div (∑ k, x k) c

/-- The mean square deviation of a row. -/
def var {n : ℕ} (c : EReal) (x : Fin n → EReal) : EReal :=
  Ideal.div (∑ k, (x k - mean c x) * (x k - mean c x)) c

/-- Layer normalization followed by the positive part. -/
def lnRelu {n : ℕ} (c : EReal) (x g b : Fin n → EReal) (j : Fin n) : EReal :=
  max (Ideal.div (x j - mean c x) (Ideal.sqrt (var c x + Ideal.ofBits .f32 0x3727C5AC#32)) * g j + b j) 0

/-- A dense layer: a row times a matrix, plus a bias. -/
def dense {m n : ℕ} (x : Fin m → EReal) (w : Fin m → Fin n → EReal) (b : Fin n → EReal) (j : Fin n) : EReal :=
  (∑ k, x k * w k j) + b j

/-- The weights of the three networks. -/
@[ext] structure Weights where
  gw1 : Fin 10 → Fin 32 → EReal
  gb1 : Fin 32 → EReal
  gg : Fin 32 → EReal
  gb : Fin 32 → EReal
  gw2 : Fin 32 → Fin 16 → EReal
  gb2 : Fin 16 → EReal
  ewf : Fin 512 → Fin 64 → EReal
  ewg : Fin 16 → Fin 64 → EReal
  eb1 : Fin 64 → EReal
  eg : Fin 64 → EReal
  eb : Fin 64 → EReal
  ew2 : Fin 64 → EReal
  eb2 : EReal
  rw : Fin 512 → Fin 512 → EReal
  rb : Fin 512 → EReal
  rg : Fin 512 → EReal
  rbt : Fin 512 → EReal

variable (W : Weights)

/-- The statistics' first layer. -/
def geo1 (geo : Fin 10 → EReal) : Fin 32 → EReal := dense geo W.gw1 W.gb1

/-- The second layer, from the first layer's row. -/
def geo2 (h : Fin 32 → EReal) : Fin 16 → EReal :=
  dense (lnRelu (Ideal.ofBits .f32 0x42000000#32) h W.gg W.gb) W.gw2 W.gb2

/-- The gate's first layer, of the point's features and the statistics' second layer. -/
def edge1 (f : Fin 512 → EReal) (h : Fin 16 → EReal) (j : Fin 64) : EReal :=
  ((∑ k, f k * W.ewf k j) + ∑ k, h k * W.ewg k j) + W.eb1 j

/-- The gate before its logistic, from its first layer's row. -/
def edge2 (e : Fin 64 → EReal) : EReal :=
  (∑ k, lnRelu (Ideal.ofBits .f32 0x42800000#32) e W.eg W.eb k * W.ew2 k) + W.eb2

/-- The gate. -/
def gate (geo : Fin 10 → EReal) (f : Fin 512 → EReal) : EReal :=
  Ideal.logistic (edge2 W (edge1 W f (geo2 W (geo1 W geo))))

/-- The residual branch. -/
def branch (f : Fin 512 → EReal) : Fin 512 → EReal :=
  lnRelu (Ideal.ofBits .f32 0x44000000#32) (dense f W.rw W.rb) W.rg W.rbt

/-- The refined features. -/
def refined (geo : Fin 10 → EReal) (f : Fin 512 → EReal) (j : Fin 512) : EReal :=
  f j + branch W f j * gate W geo f

end Cert.Geo
-- ==== Proof.TopK.lean ====
/- The mathematics of the neighbour selection, on one row of scores: striking out the row's maximum fifteen
   times leaves the sixteenth largest score as the maximum, and the entries at least as large as it are exactly
   the first sixteen of a descending sort, when the first seventeen of the sort fall strictly. -/
module

public import Idealize.ShloMosaic.Lib.ValueIdx

@[expose] public section

noncomputable section

namespace Cert.Geo

open Finset

variable {n : ℕ}

/-- The largest entry of a row. -/
def rowMax (w : Fin n → EReal) : EReal := (univ : Finset (Fin n)).fold max ⊥ w

/-- One round: every entry equal to the row's maximum is struck out. -/
def strike (w : Fin n → EReal) : Fin n → EReal := fun j => if w j = rowMax w then ⊥ else w j

/-- `t` rounds. -/
def strikes (t : ℕ) (w : Fin n → EReal) : Fin n → EReal := strike^[t] w

/-- The threshold: the maximum left after fifteen rounds. -/
def threshold (w : Fin n → EReal) : EReal := rowMax (strikes 15 w)

/-- The 0/1 mask of the entries at least the threshold. -/
def mask (w : Fin n → EReal) (j : Fin n) : EReal := if threshold w ≤ w j then 1 else 0

theorem rowMax_eq_sup (w : Fin n → EReal) : rowMax w = univ.sup w := rfl

theorem rowMax_eq {w : Fin n → EReal} {a : Fin n} (h : ∀ j, w j ≤ w a) : rowMax w = w a := by
  rw [rowMax_eq_sup]
  exact le_antisymm (Finset.sup_le fun j _ => h j) (Finset.le_sup (f := w) (mem_univ a))

/-- A descending arrangement `σ` of a row whose first seventeen entries fall strictly. -/
structure Sorted (f : Fin 2048 → EReal) (σ : Fin 2048 → Fin 2048) : Prop where
  bij : Function.Bijective σ
  anti : ∀ i j, i < j → f (σ j) ≤ f (σ i)
  strict : ∀ k : ℕ, (hk : k < 16) → f (σ ⟨k + 1, by omega⟩) < f (σ ⟨k, by omega⟩)

variable {f : Fin 2048 → EReal} {σ : Fin 2048 → Fin 2048}

theorem Sorted.lt (h : Sorted f σ) (k j : Fin 2048) (hk : k.val < 16) (hj : k < j) : f (σ j) < f (σ k) := by
  have h1 := h.strict k.val hk
  refine lt_of_le_of_lt ?_ h1
  rcases eq_or_lt_of_le (show (⟨k.val + 1, by omega⟩ : Fin 2048) ≤ j from Fin.le_def.mpr (by have := Fin.lt_def.mp hj; simp; omega)) with e | e
  · rw [e]
  · exact h.anti _ _ e

theorem Sorted.strikes_apply (h : Sorted f σ) (t : ℕ) (ht : t ≤ 15) (k : Fin 2048) :
    strikes t f (σ k) = if k.val < t then ⊥ else f (σ k) := by
  induction t generalizing k with
  | zero => simp [strikes]
  | succ t ih =>
    have ih := ih (by omega)
    have hs : strikes (t + 1) f = strike (strikes t f) := by
      unfold strikes; rw [Function.iterate_succ_apply']
    have hmax : rowMax (strikes t f) = f (σ ⟨t, by omega⟩) := by
      have e : strikes t f (σ ⟨t, by omega⟩) = f (σ ⟨t, by omega⟩) := by rw [ih]; simp
      rw [← e]
      refine rowMax_eq fun j => ?_
      obtain ⟨i, rfl⟩ := h.bij.2 j
      rw [e, ih]
      split
      · exact bot_le
      · rename_i hi
        rcases eq_or_lt_of_le (show (⟨t, by omega⟩ : Fin 2048) ≤ i from Fin.le_def.mpr (by simpa using hi)) with e' | e'
        · rw [e']
        · exact h.anti _ _ e'
    rw [hs]
    unfold strike
    rw [hmax, ih]
    by_cases h1 : k.val < t
    · rw [if_pos h1, if_pos (show k.val < t + 1 by omega)]; split <;> rfl
    · rw [if_neg h1]
      by_cases h2 : k.val = t
      · have : k = ⟨t, by omega⟩ := Fin.ext h2
        rw [if_pos (show k.val < t + 1 by omega), this, if_pos rfl]
      · rw [if_neg (show ¬ k.val < t + 1 by omega), if_neg]
        exact ne_of_lt (h.lt ⟨t, by omega⟩ k (by simp; omega) (Fin.lt_def.mpr (by simp; omega)))

theorem Sorted.threshold_eq (h : Sorted f σ) : threshold f = f (σ 15) := by
  unfold threshold
  have e : strikes 15 f (σ 15) = f (σ 15) := by rw [h.strikes_apply 15 le_rfl]; simp
  rw [← e]
  refine rowMax_eq fun j => ?_
  obtain ⟨i, rfl⟩ := h.bij.2 j
  rw [e, h.strikes_apply 15 le_rfl]
  split
  · exact bot_le
  · rename_i hi
    rcases eq_or_lt_of_le (show (15 : Fin 2048) ≤ i from Fin.le_def.mpr (by simpa using hi)) with e' | e'
    · rw [e']
    · exact h.anti _ _ e'

/-- The mask picks the first sixteen of the sort. -/
theorem Sorted.mask_apply (h : Sorted f σ) (k : Fin 2048) : mask f (σ k) = if k.val < 16 then 1 else 0 := by
  unfold mask
  rw [h.threshold_eq]
  congr 1
  refine propext ⟨fun hle => ?_, fun hk => ?_⟩
  · by_contra hk
    exact absurd (h.lt 15 k (by decide) (Fin.lt_def.mpr (by have : (15 : Fin 2048).val = 15 := rfl; omega))) (not_lt.mpr hle)
  · rcases eq_or_lt_of_le (show k ≤ (15 : Fin 2048) from Fin.le_def.mpr (by have : (15 : Fin 2048).val = 15 := rfl; omega)) with e | e
    · rw [e]
    · exact h.anti _ _ e

/-- The `k`-th selected entry. -/
def pick (σ : Fin 2048 → Fin 2048) (k : Fin 16) : Fin 2048 := σ (k.castLE (by norm_num))

/-- A masked sum over the row is the sum over the selected entries. -/
theorem Sorted.sum_mask (h : Sorted f σ) (g : Fin 2048 → EReal) :
    ∑ j, mask f j * g j = ∑ k : Fin 16, g (pick σ k) := by
  rw [← Equiv.sum_comp (Equiv.ofBijective σ h.bij) (fun j => mask f j * g j)]
  have e : ∀ k : Fin 2048, mask f (Equiv.ofBijective σ h.bij k) * g (Equiv.ofBijective σ h.bij k)
      = if k.val < 16 then g (σ k) else 0 := by
    intro k
    rw [Equiv.ofBijective_apply, h.mask_apply]
    split <;> simp
  rw [Finset.sum_congr rfl fun k _ => e k, ← Finset.sum_filter]
  symm
  refine Finset.sum_bij (fun k _ => k.castLE (by norm_num)) ?_ ?_ ?_ ?_
  · intro k _; simp
  · intro a _ b _ hab; exact Fin.castLE_injective _ hab
  · intro b hb; exact ⟨⟨b.val, by simpa using hb⟩, mem_univ _, rfl⟩
  · intro k _; rfl

end Cert.Geo
-- ==== Proof.Stats.lean ====
/- The ten statistics of sixteen points in space, over the reals, and the identities by which the one program's
   moments are the other's deviations. -/
module

public import Idealize.ShloMosaic.Lib.Pointwise
public import proofs.«01_k».proof.Proof.TopK

@[expose] public section

noncomputable section

namespace Cert.Geo

open Idealize.ShloMosaic
open scoped BigOperators

/-- A sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  (EReal.coe_strictMono.monotone).map_max

theorem sqrt_real {x : ℝ} (h : 0 ≤ x) : Ideal.sqrt (x : EReal) = (Real.sqrt x : EReal) := by
  rw [Ideal.sqrt_coe, if_neg (not_lt.mpr h)]

theorem div_real (x : ℝ) {y : ℝ} (h : y ≠ 0) : Ideal.div (x : EReal) (y : EReal) = ((x / y : ℝ) : EReal) := by
  rw [Ideal.div_coe h, ← EReal.coe_mul, mul_one_div]

/-- The mean of sixteen reals. -/
def mean16 (x : Fin 16 → ℝ) : ℝ := (∑ k, x k) / 16

/-- The sum of squares about the mean is the sum of squares less sixteen times the squared mean. -/
theorem sum_sq_dev (x : Fin 16 → ℝ) :
    ∑ k, (x k - mean16 x) * (x k - mean16 x) = (∑ k, x k * x k) - 16 * mean16 x * mean16 x := by
  have h : ∀ k, (x k - mean16 x) * (x k - mean16 x) = x k * x k - 2 * mean16 x * x k + mean16 x * mean16 x := fun k => by ring
  simp only [h, Finset.sum_add_distrib, Finset.sum_sub_distrib, ← Finset.mul_sum, Finset.sum_const, Finset.card_univ,
    Fintype.card_fin, nsmul_eq_mul]
  have h' : ∑ k, x k = 16 * mean16 x := by rw [mean16]; ring
  rw [h']
  push_cast
  ring

/-- Deviations from the mean have mean zero. -/
theorem mean16_dev (x : Fin 16 → ℝ) : mean16 (fun k => x k - mean16 x) = 0 := by
  simp only [mean16, Finset.sum_sub_distrib, Finset.sum_const, Finset.card_univ, Fintype.card_fin, nsmul_eq_mul]
  push_cast
  ring

variable (nb : Fin 16 → Fin 3 → ℝ)

/-- A point's deviation from the centre of the sixteen. -/
def dev (k : Fin 16) (i : Fin 3) : ℝ := nb k i - mean16 fun k => nb k i

/-- The sum of the squared deviations along an axis. -/
def ssd (i : Fin 3) : ℝ := ∑ k, dev nb k i * dev nb k i

theorem ssd_nonneg (i : Fin 3) : 0 ≤ ssd nb i := Finset.sum_nonneg fun _ _ => mul_self_nonneg _

theorem ssd_eq (i : Fin 3) : ssd nb i = (∑ k, nb k i * nb k i) - 16 * (mean16 fun k => nb k i) * (mean16 fun k => nb k i) :=
  sum_sq_dev fun k => nb k i

/-- The squared distance of a point from the centre. -/
def sqd (k : Fin 16) : ℝ := ∑ i, dev nb k i * dev nb k i

theorem sqd_nonneg (k : Fin 16) : 0 ≤ sqd nb k := Finset.sum_nonneg fun _ _ => mul_self_nonneg _

/-- The squared distance, spelt out as the squared lengths less twice the inner product. -/
theorem sqd_eq (k : Fin 16) : sqd nb k
    = ((∑ i, (mean16 fun k => nb k i) * (mean16 fun k => nb k i)) - 2 * ∑ i, (mean16 fun k => nb k i) * nb k i)
      + ∑ i, nb k i * nb k i := by
  simp only [sqd, dev, Fin.sum_univ_three]
  ring

/-- The distances. -/
def dist (k : Fin 16) : ℝ := Real.sqrt (sqd nb k)

theorem dist_sq (k : Fin 16) : dist nb k * dist nb k = sqd nb k := Real.mul_self_sqrt (sqd_nonneg nb k)

/-- The sum of the squared deviations of the distances. -/
def ssdDist : ℝ := ∑ k, (dist nb k - mean16 (dist nb)) * (dist nb k - mean16 (dist nb))

theorem ssdDist_nonneg : 0 ≤ ssdDist nb := Finset.sum_nonneg fun _ _ => mul_self_nonneg _

theorem ssdDist_eq : ssdDist nb = (∑ k, sqd nb k) - 16 * mean16 (dist nb) * mean16 (dist nb) := by
  rw [ssdDist, sum_sq_dev]
  simp only [dist_sq]

/-- The trace of the covariance. -/
def trace : ℝ := ssd nb 0 / 16 + ssd nb 1 / 16 + ssd nb 2 / 16

/-- The sample deviation along an axis. -/
def spread (i : Fin 3) : ℝ := Real.sqrt (ssd nb i / 15)

/-- The ten statistics. -/
def geo : Fin 10 → EReal :=
  ![(trace nb : EReal),
    max (Ideal.ofBits .f32 0x322BCC77#32) ((ssd nb 0 / 16 * (ssd nb 1 / 16) * (ssd nb 2 / 16) : ℝ) : EReal),
    (spread nb 0 : EReal), (spread nb 1 : EReal), (spread nb 2 : EReal),
    (mean16 (dist nb) : EReal), (Real.sqrt (ssdDist nb / 15) : EReal),
    Ideal.div (spread nb 0 : EReal) ((trace nb : EReal) + Ideal.ofBits .f32 0x358637BD#32),
    Ideal.div (spread nb 1 : EReal) ((trace nb : EReal) + Ideal.ofBits .f32 0x358637BD#32),
    Ideal.div (spread nb 2 : EReal) ((trace nb : EReal) + Ideal.ofBits .f32 0x358637BD#32)]

/-- The score of a point against the query: minus the squared distance. -/
def score (q : Fin 3 → ℝ) (P : Fin 2048 → Fin 3 → ℝ) (j : Fin 2048) : ℝ :=
  2 * (∑ i, q i * P j i) - (∑ i, q i * q i) - ∑ i, P j i * P j i

/-- The selected points. -/
abbrev near (P : Fin 2048 → Fin 3 → ℝ) (σ : Fin 2048 → Fin 2048) (k : Fin 16) : Fin 3 → ℝ := P (pick σ k)

end Cert.Geo
-- ==== Proof.Args.lean ====
/- The two result arrays as functions of the eighteen argument arrays and of the order in which every row of
   scores is sorted: what both programs are shown to compute. -/
module

public import proofs.«01_k».proof.Proof.Tail
public import proofs.«01_k».proof.Proof.Stats

@[expose] public section

noncomputable section

namespace Cert.Geo

open Idealize.ShloMosaic
open scoped BigOperators

/-- The networks' weights, from the argument arrays; the gate's first matrix is cut after the features' 512 rows. -/
def argWeights (a2 : (⟨2, ![10, 32]⟩ : Shape).Idx → EReal) (a3 : (⟨1, ![32]⟩ : Shape).Idx → EReal) (a4 : (⟨1, ![32]⟩ : Shape).Idx → EReal) (a5 : (⟨1, ![32]⟩ : Shape).Idx → EReal) (a6 : (⟨2, ![32, 16]⟩ : Shape).Idx → EReal) (a7 : (⟨1, ![16]⟩ : Shape).Idx → EReal) (a8 : (⟨2, ![528, 64]⟩ : Shape).Idx → EReal) (a9 : (⟨1, ![64]⟩ : Shape).Idx → EReal) (a10 : (⟨1, ![64]⟩ : Shape).Idx → EReal) (a11 : (⟨1, ![64]⟩ : Shape).Idx → EReal) (a12 : (⟨2, ![64, 1]⟩ : Shape).Idx → EReal) (a13 : (⟨1, ![1]⟩ : Shape).Idx → EReal) (a14 : (⟨2, ![512, 512]⟩ : Shape).Idx → EReal) (a15 : (⟨1, ![512]⟩ : Shape).Idx → EReal) (a16 : (⟨1, ![512]⟩ : Shape).Idx → EReal) (a17 : (⟨1, ![512]⟩ : Shape).Idx → EReal) : Weights where
  gw1 k j := a2 (ix2 k j)
  gb1 j := a3 (ix1 j)
  gg j := a4 (ix1 j)
  gb j := a5 (ix1 j)
  gw2 k j := a6 (ix2 k j)
  gb2 j := a7 (ix1 j)
  ewf k j := a8 (ix2 ⟨k.val, by omega⟩ j)
  ewg k j := a8 (ix2 ⟨512 + k.val, by omega⟩ j)
  eb1 j := a9 (ix1 j)
  eg j := a10 (ix1 j)
  eb j := a11 (ix1 j)
  ew2 k := a12 (ix2 k 0)
  eb2 := a13 (ix1 0)
  rw k j := a14 (ix2 k j)
  rb j := a15 (ix1 j)
  rg j := a16 (ix1 j)
  rbt j := a17 (ix1 j)

/-- A batch's points, as reals. -/
def point (x : (⟨3, ![4, 2048, 3]⟩ : Shape).Idx → EReal) (b : Fin 4) (j : Fin 2048) (i : Fin 3) : ℝ := (x (ix3 b j i)).toReal

variable (W : Weights) (x : (⟨3, ![4, 2048, 3]⟩ : Shape).Idx → EReal) (f : (⟨3, ![4, 2048, 512]⟩ : Shape).Idx → EReal)
  (σ : Fin 4 → Fin 2048 → Fin 2048 → Fin 2048)

/-- The statistics of a point's neighbourhood. -/
def geoAt (b : Fin 4) (n : Fin 2048) : Fin 10 → EReal := geo (near (point x b) (σ b n))

/-- The refined features at a point. -/
def refinedAt (b : Fin 4) (n : Fin 2048) (j : Fin 512) : EReal :=
  refined W (geoAt x σ b n) (fun k => f (ix3 b n k)) j

/-- The gate at a point. -/
def gateAt (b : Fin 4) (n : Fin 2048) : EReal := gate W (geoAt x σ b n) fun k => f (ix3 b n k)

/-- What is asked of the coordinates: they are finite, and every row of scores, sorted by `σ`, falls strictly over its
    first seventeen entries. -/
structure NoTie : Prop where
  finite : ∀ b j i, x (ix3 b j i) = (point x b j i : EReal)
  sorted : ∀ b n, Sorted (fun j => (score (point x b n) (point x b) j : EReal)) (σ b n)

end Cert.Geo
-- ==== Proof.Consts.lean ====
/- The values of the constants both programs write as bit patterns. -/
module

public import Idealize.ShloMosaic.Lib.Pointwise

@[expose] public section

noncomputable section

namespace Cert.Geo

open Idealize.ShloMosaic

theorem bits_bot : Ideal.ofBits .f32 0xFF800000#32 = ⊥ := by
  simp [Ideal.ofBits, Ideal.ieee, -EReal.coe_mul]

theorem bits_two : Ideal.ofBits .f32 0x40000000#32 = ((2 : ℝ) : EReal) := by
  simp [Ideal.ofBits, Ideal.ieee, -EReal.coe_mul]; norm_num

theorem bits_neg_two : Ideal.ofBits .f32 0xC0000000#32 = ((-2 : ℝ) : EReal) := by
  simp [Ideal.ofBits, Ideal.ieee, -EReal.coe_mul, -EReal.coe_neg]; norm_num

theorem bits_sixteenth : Ideal.ofBits .f32 0x3D800000#32 = ((1 / 16 : ℝ) : EReal) := by
  simp [Ideal.ofBits, Ideal.ieee, -EReal.coe_mul]; norm_num

theorem bits_sixteen : Ideal.ofBits .f32 0x41800000#32 = ((16 : ℝ) : EReal) := by
  simp [Ideal.ofBits, Ideal.ieee, -EReal.coe_mul]; norm_num

theorem bits_fifteen : Ideal.ofBits .f32 0x41700000#32 = ((15 : ℝ) : EReal) := by
  simp [Ideal.ofBits, Ideal.ieee, -EReal.coe_mul]; norm_num

end Cert.Geo
-- ==== Proof.Order.lean ====
/- The order in which a row is sorted: greatest first, by a stable sort. What a top-k operation gives at an index, and
   what the sort guarantees of a row whose leading entries fall strictly. -/
module

public import proofs.«01_k».proof.Proof.Args
public import proofs.«01_k».proof.Proof.Consts
public import Idealize.ShloMosaic.Lib.SortFacts

@[expose] public section

set_option maxRecDepth 16384

noncomputable section

namespace Cert.Geo

open Idealize.ShloMosaic
open scoped BigOperators

/-- The positions of a row from its greatest entry down. -/
def order (f : Fin 2048 → EReal) : Fin 2048 → Fin 2048 :=
  sortedFrom fun a b => FloatOps.cmpfTotal (F := Ideal) (φ := .f32) .gt (f a) (f b) == 1#1

theorem before_eq (x y : EReal) : (FloatOps.cmpfTotal (F := Ideal) (φ := .f32) .gt x y == 1#1) = decide (y < x) := by
  change (BitVec.ofBool (decide (y < x)) == 1#1) = _
  by_cases h : y < x <;> simp [h]

theorem order_eq (f : Fin 2048 → EReal) : order f = sortedFrom fun a b => decide (f b < f a) :=
  congrArg sortedFrom (funext fun _ => funext fun _ => before_eq _ _)

/-- A row whose first seventeen entries, in that order, fall strictly is sorted by it. -/
theorem order_sorted (f : Fin 2048 → EReal)
    (h : ∀ k (hk : k < 16), f (order f ⟨k + 1, by omega⟩) < f (order f ⟨k, by omega⟩)) : Sorted f (order f) where
  bij := by
    rw [order_eq]
    exact ⟨sortedFrom_injective _, sortedFrom_surjective _⟩
  anti i j hij := by
    rw [order_eq]
    have := sortedFrom_noInversion (fun a b => decide (f b < f a)) (fun a b => decide (f b < f a))
      (fun a b h => by simp only [decide_eq_true_eq, decide_eq_false_iff_not, not_lt] at h ⊢; exact h.le)
      (fun a b h => h)
      (fun a b c h h' => by
        simp only [decide_eq_false_iff_not, not_lt] at h h' ⊢
        exact h.trans h') i j hij
    simpa only [decide_eq_false_iff_not, not_lt] using this
  strict := h

section TopK

variable {K : ℕ} (hK : K ≤ 2048) (x : (⟨3, ![4, 2048, 2048]⟩ : Shape).Idx → EReal)
  (h : (⟨3, ![4, 2048, 2048]⟩ : Shape).Slices (fun _ => 0) ⟨3, ![4, 2048, K]⟩) (b : Fin 4) (n : Fin 2048) (k : Fin K)

theorem along_last (j j' : Fin 2048) :
    (ix3 b n j : (⟨3, ![4, 2048, 2048]⟩ : Shape).Idx).along (2 : Fin 3) j' = ix3 b n j' := by
  funext a
  match a with
  | ⟨0, _⟩ => rfl
  | ⟨1, _⟩ => rfl
  | ⟨2, _⟩ => rfl

/-- Where the cut to the leading entries reads. -/
def cut : (⟨3, ![4, 2048, 2048]⟩ : Shape).Idx :=
  fun a => ⟨0 + ((ix3 b n k : (⟨3, ![4, 2048, K]⟩ : Shape).Idx) (a.cast h.1.symm)).val,
      Nat.lt_of_lt_of_le (Nat.add_lt_add_left ((ix3 b n k : (⟨3, ![4, 2048, K]⟩ : Shape).Idx) _).isLt _) (h.2 a)⟩

include hK in
theorem cut_eq : cut h b n k = ix3 b n ⟨k.val, by omega⟩ := by
  funext a
  apply Fin.ext
  match a with
  | ⟨0, _⟩ => exact Nat.zero_add _
  | ⟨1, _⟩ => exact Nat.zero_add _
  | ⟨2, _⟩ => exact Nat.zero_add _

theorem sorted_at (J : (⟨3, ![4, 2048, 2048]⟩ : Shape).Idx) (h₁ : ∀ a : Fin 2048, J.along (2 : Fin 3) a = ix3 b n a) (p q : Fin 2048)
    (h₂ : p = q) :
    sortedFrom (n := 2048) (fun a a' => FloatOps.cmpfTotal (F := Ideal) (φ := .f32) .gt (x (J.along (2 : Fin 3) a))
      (x (J.along (2 : Fin 3) a')) == 1#1) p = order (fun j => x (ix3 b n j)) q := by
  subst h₂
  have e : (fun a a' : Fin 2048 => FloatOps.cmpfTotal (F := Ideal) (φ := .f32) .gt (x (J.along (2 : Fin 3) a))
      (x (J.along (2 : Fin 3) a')) == 1#1) = fun a a' : Fin 2048 => FloatOps.cmpfTotal (F := Ideal) (φ := .f32) .gt
      (x (ix3 b n a)) (x (ix3 b n a')) == 1#1 := funext fun a => funext fun a' => by rw [h₁ a, h₁ a']
  exact congrFun (congrArg sortedFrom e) p

include hK in
theorem along_slice (a : Fin 2048) : (cut h b n k).along (2 : Fin 3) a = ix3 b n a :=
  (congrArg (fun J => Shape.Idx.along J (2 : Fin 3) a) (cut_eq hK h b n k)).trans (along_last b n _ a)

/-- The greatest entries of a row, in order. -/
theorem topK_values : (Host.topK ⟨3, ![4, 2048, K]⟩ 2 (FloatOps.cmpfTotal (F := Ideal) (φ := .f32) .gt) x h).1 (ix3 b n k)
    = x (ix3 b n (order (fun j => x (ix3 b n j)) ⟨k.val, by omega⟩)) :=
  (congrArg x (along_slice hK h b n k _)).trans (congrArg (fun j => x (ix3 b n j))
    (sorted_at x b n _ (along_slice hK h b n k) _ ⟨k.val, by omega⟩ (congrArg (fun J : (⟨3, ![4, 2048, 2048]⟩ : Shape).Idx => J (2 : Fin 3)) (cut_eq hK h b n k))))

/-- Their positions. -/
theorem topK_indices : (Host.topK ⟨3, ![4, 2048, K]⟩ 2 (FloatOps.cmpfTotal (F := Ideal) (φ := .f32) .gt) x h).2 (ix3 b n k)
    = BitVec.ofNat 32 (order (fun j => x (ix3 b n j)) ⟨k.val, by omega⟩).val :=
  (congrArg (fun J : (⟨3, ![4, 2048, 2048]⟩ : Shape).Idx => BitVec.ofNat 32 (J (2 : Fin 3)).val) (along_slice hK h b n k _)).trans
    (congrArg (fun j : Fin 2048 => BitVec.ofNat 32 j.val)
      (sorted_at x b n _ (along_slice hK h b n k) _ ⟨k.val, by omega⟩ (congrArg (fun J : (⟨3, ![4, 2048, 2048]⟩ : Shape).Idx => J (2 : Fin 3)) (cut_eq hK h b n k))))

end TopK

/-! ## The rows of scores -/

section Rows

variable (x : (⟨3, ![4, 2048, 3]⟩ : Shape).Idx → EReal)

/-- Minus the squared distance of two points of a batch, as the reference spells it. -/
def pdAt (b : Fin 4) (n j : Fin 2048) : EReal :=
  (-∑ i : Fin 3, x (ix3 b n i) * x (ix3 b n i)) - Ideal.ofBits .f32 0xC0000000#32 * (∑ i : Fin 3, x (ix3 b n i) * x (ix3 b j i))
    - ∑ i : Fin 3, x (ix3 b j i) * x (ix3 b j i)

/-- The order of the points of a batch about one of them, nearest first. -/
def arrange (b : Fin 4) (n : Fin 2048) : Fin 2048 → Fin 2048 := order (pdAt x b n)

theorem pdAt_score (h : ∀ b j i, x (ix3 b j i) = (point x b j i : EReal)) (b : Fin 4) (n j : Fin 2048) :
    pdAt x b n j = (score (point x b n) (point x b) j : EReal) := by
  unfold pdAt
  simp only [h, bits_neg_two, ← EReal.coe_mul, ← coe_sum, ← EReal.coe_neg, ← EReal.coe_sub]
  congr 1
  simp only [score]
  ring

theorem square_nonneg (a : EReal) : 0 ≤ a * a := by
  induction a with
  | bot => simp
  | coe r => exact_mod_cast mul_self_nonneg r
  | top => simp

theorem square_top {a : EReal} (h : a = ⊤ ∨ a = ⊥) : a * a = ⊤ := by
  rcases h with rfl | rfl <;> simp

/-- A point with an infinite coordinate makes its row of scores constant. -/
theorem pdAt_infinite (b : Fin 4) (n : Fin 2048) (i : Fin 3) (h : x (ix3 b n i) = ⊤ ∨ x (ix3 b n i) = ⊥) (j : Fin 2048) :
    pdAt x b n j = ⊥ := by
  have e : ∑ i : Fin 3, x (ix3 b n i) * x (ix3 b n i) = ⊤ := by
    refine top_le_iff.mp ?_
    rw [← square_top h]
    exact Finset.single_le_sum (f := fun i => x (ix3 b n i) * x (ix3 b n i)) (fun i _ => square_nonneg _) (Finset.mem_univ i)
  unfold pdAt
  rw [e, EReal.neg_top, EReal.bot_sub, EReal.bot_sub]

/-- Rows that fall strictly over their first seventeen entries: the coordinates are finite and the rows are sorted. -/
theorem noTie_of (h : ∀ b n k (hk : k < 16),
    pdAt x b n (order (pdAt x b n) ⟨k + 1, by omega⟩) < pdAt x b n (order (pdAt x b n) ⟨k, by omega⟩)) : NoTie x (arrange x) := by
  have hf : ∀ b j i, x (ix3 b j i) = (point x b j i : EReal) := by
    intro b j i
    by_cases hx : x (ix3 b j i) = ⊤ ∨ x (ix3 b j i) = ⊥
    · have := h b j 0 (by omega)
      rw [pdAt_infinite x b j i hx, pdAt_infinite x b j i hx] at this
      exact absurd this (lt_irrefl _)
    · exact (EReal.coe_toReal (fun e => hx (Or.inl e)) (fun e => hx (Or.inr e))).symm
  refine ⟨hf, fun b n => ?_⟩
  have e : (fun j => (score (point x b n) (point x b) j : EReal)) = pdAt x b n := funext fun j => (pdAt_score x hf b n j).symm
  rw [e]
  exact order_sorted (pdAt x b n) fun k hk => h b n k hk

end Rows

end Cert.Geo
-- ==== Proof.PreFacts.lean ====
/- What the precondition says: every row of scores falls strictly over its first seventeen entries. -/
module

public import proofs.«01_k».proof.Defs
public import proofs.«01_k».proof.Proof.Order
public import proofs.«01_k».proof.Proof.Gen.Pre_no_tie

@[expose] public section

set_option maxRecDepth 16384

noncomputable section

namespace Cert.Pre_no_tie.Rows

open Idealize.ShloMosaic Idealize.SL.Sem Cert.Pre_no_tie Cert.Pre_no_tie.Gen Cert.Geo
open scoped BigOperators

/-- One comparison of the precondition: of an array of scores sorted along its last axis, entry `k + 1` is below entry `k`. -/
theorem step_lt (x : (⟨3, ![4, 2048, 3]⟩ : Shape).Idx → EReal) (X : Vec Ideal S4x2048x2048 .f32) (hX : ∀ b n j, X (ix3 b n j) = pdAt x b n j)
    (h) (h1) (h0) (b : Fin 4) (n : Fin 2048) (k : Nat) (hk : k < 16)
    (e : cmpf (F := Ideal) (φ := .f32) .olt
      (extractStridedSlice S4x2048x16 ![0, 0, 1] (Host.topK S4x2048x17 2 (FloatOps.cmpfTotal (F := Ideal) (φ := .f32) .gt) X h).1 h1)
      (extractStridedSlice S4x2048x16 ![0, 0, 0] (Host.topK S4x2048x17 2 (FloatOps.cmpfTotal (F := Ideal) (φ := .f32) .gt) X h).1 h0)
      (ix3 b n ⟨k, hk⟩) = 1#1) :
    pdAt x b n (order (pdAt x b n) ⟨k + 1, by omega⟩) < pdAt x b n (order (pdAt x b n) ⟨k, by omega⟩) := by
  have r : ∀ (q : Fin 17), (Host.topK S4x2048x17 2 (FloatOps.cmpfTotal (F := Ideal) (φ := .f32) .gt) X h).1 (ix3 b n q)
      = pdAt x b n (order (pdAt x b n) ⟨q.val, by omega⟩) := fun q => by
    refine (topK_values (by norm_num) X h b n q).trans ?_
    rw [hX, show (fun j => X (ix3 b n j)) = pdAt x b n from funext fun j => hX b n j]
  have s1 : extractStridedSlice S4x2048x16 ![0, 0, 1] (Host.topK S4x2048x17 2 (FloatOps.cmpfTotal (F := Ideal) (φ := .f32) .gt) X h).1 h1 (ix3 b n ⟨k, hk⟩)
      = (Host.topK S4x2048x17 2 (FloatOps.cmpfTotal (F := Ideal) (φ := .f32) .gt) X h).1 (ix3 b n ⟨k + 1, by omega⟩) := by
    generalize (Host.topK S4x2048x17 2 (FloatOps.cmpfTotal (F := Ideal) (φ := .f32) .gt) X h).1 = T
    refine congrArg T (funext fun a => Fin.ext ?_)
    match a with
    | ⟨0, _⟩ => exact Nat.zero_add _
    | ⟨1, _⟩ => exact Nat.zero_add _
    | ⟨2, _⟩ => exact Nat.add_comm _ _
  have s0 : extractStridedSlice S4x2048x16 ![0, 0, 0] (Host.topK S4x2048x17 2 (FloatOps.cmpfTotal (F := Ideal) (φ := .f32) .gt) X h).1 h0 (ix3 b n ⟨k, hk⟩)
      = (Host.topK S4x2048x17 2 (FloatOps.cmpfTotal (F := Ideal) (φ := .f32) .gt) X h).1 (ix3 b n ⟨k, by omega⟩) := by
    generalize (Host.topK S4x2048x17 2 (FloatOps.cmpfTotal (F := Ideal) (φ := .f32) .gt) X h).1 = T
    refine congrArg T (funext fun a => Fin.ext ?_)
    match a with
    | ⟨0, _⟩ => exact Nat.zero_add _
    | ⟨1, _⟩ => exact Nat.zero_add _
    | ⟨2, _⟩ => exact Nat.zero_add _
  have lt_of : ∀ u v : EReal, (FloatOps.cmpf (F := Ideal) (φ := .f32) .olt u v = 1#1) → u < v := fun u v q => by
    by_contra hn
    have : (BitVec.ofBool (decide (u < v)) : BitVec 1) = 1#1 := q
    rw [decide_eq_false hn] at this
    exact absurd this (by decide)
  have e' := lt_of _ _ e
  rw [s1, s0, r, r] at e'
  exact e'

/-- Under the precondition no row ties: the coordinates are finite and the sixteen nearest points are well defined. -/
theorem noTie (m : (ℓ : Loc Cert.KernelIdeal.nD Cert.KernelIdeal.τ Cert.KernelIdeal.sig) → Buf (Elt Ideal) ℓ)
    (h : Cert.Pre_KernelIdeal_no_tie (hPre_no_tie := Cert.Pre_no_tie.Gen.facts) m) (c : Dev Cert.KernelIdeal.nD) :
    NoTie (m ((c.tc : Thread Cert.KernelIdeal.nD Cert.KernelIdeal.τ).loc Cert.KernelIdeal.main_arg0))
      (arrange (m ((c.tc : Thread Cert.KernelIdeal.nD Cert.KernelIdeal.τ).loc Cert.KernelIdeal.main_arg0))) := by
  have e := h c
  unfold fn at e
  dsimp only at e
  generalize m ((c.tc : Thread Cert.KernelIdeal.nD Cert.KernelIdeal.τ).loc Cert.KernelIdeal.main_arg0) = x at e ⊢
  refine noTie_of x fun b n k hk => step_lt x _ (fun b n j => ?_) _ _ _ b n k hk (congrFun e (ix3 b n ⟨k, hk⟩))
  pointwise
  rfl

end Cert.Pre_no_tie.Rows
-- ==== Proof.RPoints.lean ====
/- The reference's neighbours: its scores, its top-k positions, and the points it gathers there. -/
module

public import proofs.«01_k».proof.Proof.Order
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.Geo
open scoped BigOperators

variable (x0 : Vec Ideal S4x2048x3 .f32)

theorem scores_apply (b : Fin 4) (n j : Fin 2048) : val_main_v12 (F := Ideal) x0 (ix3 b n j) = pdAt x0 b n j := by
  pointwise [val_main_v12, val_main_v11, val_main_v10, val_main_v9, val_main_v8, val_main_v7, val_main_v6, val_main_v5, val_main_cst_0, val_main_v4, val_main_v3, val_main_v2, val_main_cst, val_main_v1, val_main_v0]
  rfl

theorem indices_apply (b : Fin 4) (n : Fin 2048) (k : Fin 16) : val_main_indices (F := Ideal) x0 (ix3 b n k)
    = BitVec.ofNat 32 (pick (arrange x0 b n) k).val := by
  refine (topK_indices (by norm_num) _ _ b n k).trans ?_
  have e : (fun j => val_main_v12 (F := Ideal) x0 (ix3 b n j)) = pdAt x0 b n := funext fun j => scores_apply x0 b n j
  rw [e]
  exact congrArg (fun z : Fin 2048 => BitVec.ofNat 32 z.val)
    (show order (pdAt x0 b n) ⟨k.val, by omega⟩ = pick (arrange x0 b n) k from by
      unfold pick arrange
      exact congrArg (order (pdAt x0 b n)) (Fin.ext rfl))

/-- A batch number is not negative, so it is not wrapped. -/
theorem wrap_batch : ∀ b : Fin 4, Scalar.select (IntOp.cmpi .slt (BitVec.ofNat 32 b.val) 0#32)
    (IntOp.addi (BitVec.ofNat 32 b.val) 4#32) (BitVec.ofNat 32 b.val) = BitVec.ofNat 32 b.val := by decide

/-- Nor is a point's number. -/
theorem wrap_point (j : Fin 2048) : Scalar.select (IntOp.cmpi .slt (BitVec.ofNat 32 j.val) 0#32)
    (IntOp.addi (BitVec.ofNat 32 j.val) 2048#32) (BitVec.ofNat 32 j.val) = BitVec.ofNat 32 j.val :=
  (by decide +kernel : ∀ j : Fin 2048, Scalar.select (IntOp.cmpi .slt (BitVec.ofNat 32 j.val) 0#32)
    (IntOp.addi (BitVec.ofNat 32 j.val) 2048#32) (BitVec.ofNat 32 j.val) = BitVec.ofNat 32 j.val) j

theorem start_batch (b : Fin 4) (n : Fin 2048) (k : Fin 16) :
    val_main_v28 (F := Ideal) x0 (ix4 b n k 0) = BitVec.ofNat 32 b.val := by
  pointwise [val_main_v28, val_main_v27, val_main_v26, val_main_v25, val_main_v24, val_main_v23, val_main_v22, val_main_c_3, val_main_v21, val_main_v20, val_main_c_2, val_main_v19, val_main_v18, val_main_v17, val_main_c_1, val_main_v16, val_main_v15, val_main_c, val_main_v14, val_main_v13]
  exact wrap_batch b

theorem start_point (b : Fin 4) (n : Fin 2048) (k : Fin 16) :
    val_main_v28 (F := Ideal) x0 (ix4 b n k 1) = BitVec.ofNat 32 (pick (arrange x0 b n) k).val := by
  pointwise [val_main_v28, val_main_v27, val_main_v26, val_main_v25, val_main_v24, val_main_v23, val_main_v22, val_main_c_3, val_main_v21, val_main_v20, val_main_c_2, val_main_v19, val_main_v18, val_main_v17, val_main_c_1, val_main_v16, val_main_v15, val_main_c, val_main_v14, val_main_v13]
  rw [indices_apply]
  exact wrap_point _

theorem clamp_batch : ∀ b : Fin 4, min (BitVec.ofNat 32 b.val).toInt.toNat 3 = b.val := by decide

theorem clamp_point (j : Fin 2048) : min (BitVec.ofNat 32 j.val).toInt.toNat 2047 = j.val :=
  (by decide +kernel : ∀ j : Fin 2048, min (BitVec.ofNat 32 j.val).toInt.toNat 2047 = j.val) j

/-- The gathered points. -/
theorem gather_apply (b : Fin 4) (n : Fin 2048) (k : Fin 16) (i : Fin 3) :
    val_main_v29 (F := Ideal) x0 (ix4 b n k i) = x0 (ix3 b (pick (arrange x0 b n) k) i) := by
  unfold val_main_v29 Host.gather
  congr 1
  funext a
  refine Fin.ext ?_
  show GatherDims.start _ _ _ a + GatherDims.batchCoord _ _ a + GatherDims.offCoord _ _ a = _
  rw [GatherDims.batchCoord_eq_zero _ _ _ List.not_mem_nil]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (by decide))]
    simp only [Nat.add_zero]
    unfold GatherDims.start
    rw [dif_pos (show (0 : Fin 3) ∈ gather_S4x2048x3_S4x2048x16x2_S4x2048x16x3_3_01_n_n_01_3_113.startIndexMap by decide)]
    have hsi : gather_S4x2048x3_S4x2048x16x2_S4x2048x16x3_3_01_n_n_01_3_113.siIdx (ix4 b n k i)
        ⟨List.idxOf (0 : Fin 3) gather_S4x2048x3_S4x2048x16x2_S4x2048x16x3_3_01_n_n_01_3_113.startIndexMap,
          List.idxOf_lt_length_iff.2 (by decide)⟩ = ix4 b n k 0 := by
      funext c
      refine Fin.ext ?_
      match c with
      | ⟨0, _⟩ => rfl
      | ⟨1, _⟩ => rfl
      | ⟨2, _⟩ => rfl
      | ⟨3, _⟩ => rfl
    rw [hsi, start_batch]
    exact clamp_batch b
  · rw [GatherDims.offCoord_eq_zero _ _ _ (fun h => ((GatherDims.mem_sKept _ _).mp h).1 (by decide))]
    simp only [Nat.add_zero]
    unfold GatherDims.start
    rw [dif_pos (show (1 : Fin 3) ∈ gather_S4x2048x3_S4x2048x16x2_S4x2048x16x3_3_01_n_n_01_3_113.startIndexMap by decide)]
    have hsi : gather_S4x2048x3_S4x2048x16x2_S4x2048x16x3_3_01_n_n_01_3_113.siIdx (ix4 b n k i)
        ⟨List.idxOf (1 : Fin 3) gather_S4x2048x3_S4x2048x16x2_S4x2048x16x3_3_01_n_n_01_3_113.startIndexMap,
          List.idxOf_lt_length_iff.2 (by decide)⟩ = ix4 b n k 1 := by
      funext c
      refine Fin.ext ?_
      match c with
      | ⟨0, _⟩ => rfl
      | ⟨1, _⟩ => rfl
      | ⟨2, _⟩ => rfl
      | ⟨3, _⟩ => rfl
    rw [hsi, start_point]
    exact clamp_point _
  · unfold GatherDims.start GatherDims.offCoord
    rw [dif_neg (show ¬ (2 : Fin 3) ∈ gather_S4x2048x3_S4x2048x16x2_S4x2048x16x3_3_01_n_n_01_3_113.startIndexMap by decide),
      dif_pos (show (2 : Fin 3) ∈ gather_S4x2048x3_S4x2048x16x2_S4x2048x16x3_3_01_n_n_01_3_113.sKept by decide)]
    simp only [Nat.zero_add]
    rfl

end Cert.ReferenceIdeal.Rows
-- ==== Proof.RStats.lean ====
/- The reference's ten statistics of sixteen gathered points with finite coordinates. -/
module

public import proofs.«01_k».proof.Proof.Stats
public import proofs.«01_k».proof.Proof.Consts
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.Geo
open scoped BigOperators

variable {x0 : Vec Ideal S4x2048x3 .f32} {b : Fin 4} {n : Fin 2048} {nb : Fin 16 → Fin 3 → ℝ}
  (hnb : ∀ k i, val_main_v29 (F := Ideal) x0 (ix4 b n k i) = (nb k i : EReal))

/-- A sum of sixteen reals over sixteen. -/
theorem over_sixteen (f : Fin 16 → ℝ) :
    Ideal.div (∑ k, (f k : EReal)) (Ideal.ofBits .f32 0x41800000#32) = (mean16 f : EReal) := by
  rw [bits_sixteen, ← coe_sum, div_real _ (by norm_num)]
  rfl

/-- The sample deviation from a sum of squares that is not negative. -/
theorem deviation {s : ℝ} (h : 0 ≤ s) :
    Ideal.sqrt (Ideal.div (s : EReal) (Ideal.ofBits .f32 0x41700000#32)) = (Real.sqrt (s / 15) : EReal) := by
  rw [bits_fifteen, div_real _ (by norm_num), sqrt_real (by positivity)]

include hnb

theorem centre_apply (i : Fin 3) : val_main_v32 (F := Ideal) x0 (ix3 b n i) = (mean16 (fun k => nb k i) : EReal) := by
  pointwise [val_main_v32, val_main_v31, val_main_cst_5, val_main_v30, val_main_cst_4]
  simp only [hnb]
  exact over_sixteen _

theorem dev_apply (k : Fin 16) (i : Fin 3) : val_main_v35 (F := Ideal) x0 (ix4 b n k i) = (dev nb k i : EReal) := by
  pointwise [val_main_v35, val_main_v34, val_main_v33]
  rw [hnb, centre_apply hnb, ← EReal.coe_sub]
  rfl

theorem cov_apply (i : Fin 3) : val_main_v39 (F := Ideal) x0 (ix4 b n i i) = (ssd nb i / 16 : ℝ) := by
  pointwise [val_main_v39, val_main_v38, val_main_cst_6, val_main_v37, val_main_v36]
  simp only [dev_apply hnb, ← EReal.coe_mul, ← coe_sum]
  rw [bits_sixteen, div_real _ (by norm_num)]
  rfl

theorem trace_apply : val_main_v47 (F := Ideal) x0 (ix2 b n) = (trace nb : EReal) := by
  pointwise [val_main_v47, val_main_v46, val_main_v45, val_main_v44, val_main_v43, val_main_v42, val_main_v41, val_main_v40]
  rw [cov_apply hnb, cov_apply hnb, cov_apply hnb, ← EReal.coe_add, ← EReal.coe_add]
  rfl

theorem det_apply : val_main_v57 (F := Ideal) x0 (ix2 b n)
    = max (Ideal.ofBits .f32 0x322BCC77#32) ((ssd nb 0 / 16 * (ssd nb 1 / 16) * (ssd nb 2 / 16) : ℝ) : EReal) := by
  pointwise [val_main_v57, val_main_v56, val_main_cst_7, val_main_v55, val_main_v54, val_main_v53, val_main_v52, val_main_v51, val_main_v50, val_main_v49, val_main_v48]
  rw [cov_apply hnb, cov_apply hnb, cov_apply hnb, ← EReal.coe_mul, ← EReal.coe_mul, max_comm]

theorem spread0_apply : val_main_v70 (F := Ideal) x0 (ix2 b n) = (spread nb 0 : EReal) := by
  pointwise [val_main_v70, val_main_v69, val_main_v68, val_main_cst_11, val_main_v67, val_main_cst_10, val_main_v66, val_main_v65, val_main_v64, val_main_v63, val_main_v62, val_main_cst_9, val_main_v61, val_main_v60, val_main_cst_8, val_main_v59, val_main_v58]
  simp only [dev_apply hnb]
  rw [over_sixteen]
  have e : mean16 (fun k => dev nb k 0) = 0 := mean16_dev fun k => nb k 0
  simp only [e, EReal.coe_zero, sub_zero, ← EReal.coe_mul, ← coe_sum]
  exact deviation (ssd_nonneg nb 0)

theorem spread1_apply : val_main_v83 (F := Ideal) x0 (ix2 b n) = (spread nb 1 : EReal) := by
  pointwise [val_main_v83, val_main_v82, val_main_v81, val_main_cst_15, val_main_v80, val_main_cst_14, val_main_v79, val_main_v78, val_main_v77, val_main_v76, val_main_v75, val_main_cst_13, val_main_v74, val_main_v73, val_main_cst_12, val_main_v72, val_main_v71]
  simp only [dev_apply hnb]
  rw [over_sixteen]
  have e : mean16 (fun k => dev nb k 1) = 0 := mean16_dev fun k => nb k 1
  simp only [e, EReal.coe_zero, sub_zero, ← EReal.coe_mul, ← coe_sum]
  exact deviation (ssd_nonneg nb 1)

theorem spread2_apply : val_main_v96 (F := Ideal) x0 (ix2 b n) = (spread nb 2 : EReal) := by
  pointwise [val_main_v96, val_main_v95, val_main_v94, val_main_cst_19, val_main_v93, val_main_cst_18, val_main_v92, val_main_v91, val_main_v90, val_main_v89, val_main_v88, val_main_cst_17, val_main_v87, val_main_v86, val_main_cst_16, val_main_v85, val_main_v84]
  simp only [dev_apply hnb]
  rw [over_sixteen]
  have e : mean16 (fun k => dev nb k 2) = 0 := mean16_dev fun k => nb k 2
  simp only [e, EReal.coe_zero, sub_zero, ← EReal.coe_mul, ← coe_sum]
  exact deviation (ssd_nonneg nb 2)

theorem dist_apply (k : Fin 16) : val_main_v99 (F := Ideal) x0 (ix3 b n k) = (Cert.Geo.dist nb k : EReal) := by
  pointwise [val_main_v99, val_main_v98, val_main_cst_20, val_main_v97]
  simp only [dev_apply hnb, ← EReal.coe_mul, ← coe_sum]
  exact sqrt_real (sqd_nonneg nb k)

theorem meanDist_apply : val_main_v102 (F := Ideal) x0 (ix2 b n) = (mean16 (Cert.Geo.dist nb) : EReal) := by
  pointwise [val_main_v102, val_main_v101, val_main_cst_22, val_main_v100, val_main_cst_21]
  simp only [dist_apply hnb]
  exact over_sixteen _

theorem spreadDist_apply : val_main_v113 (F := Ideal) x0 (ix2 b n) = (Real.sqrt (ssdDist nb / 15) : EReal) := by
  pointwise [val_main_v113, val_main_v112, val_main_v111, val_main_cst_26, val_main_v110, val_main_cst_25, val_main_v109, val_main_v108, val_main_v107, val_main_v106, val_main_v105, val_main_cst_24, val_main_v104, val_main_v103, val_main_cst_23]
  simp only [dist_apply hnb]
  rw [over_sixteen]
  simp only [← EReal.coe_sub, ← EReal.coe_mul, ← coe_sum]
  exact deviation (ssdDist_nonneg nb)

/-- The statistics. -/
theorem geo_apply (k : Fin 10) : val_main_v133 (F := Ideal) x0 (ix3 b n k) = geo nb k := by
  fin_cases k
  · change val_main_v133 (F := Ideal) x0 (ix3 b n 0) = _
    pointwise [val_main_v133, val_main_v132, val_main_v131, val_main_v130, val_main_v129, val_main_v128, val_main_v127, val_main_v126, val_main_v125, val_main_v124, val_main_v123]
    exact trace_apply hnb
  · change val_main_v133 (F := Ideal) x0 (ix3 b n 1) = _
    pointwise [val_main_v133, val_main_v132, val_main_v131, val_main_v130, val_main_v129, val_main_v128, val_main_v127, val_main_v126, val_main_v125, val_main_v124, val_main_v123]
    exact det_apply hnb
  · change val_main_v133 (F := Ideal) x0 (ix3 b n 2) = _
    pointwise [val_main_v133, val_main_v132, val_main_v131, val_main_v130, val_main_v129, val_main_v128, val_main_v127, val_main_v126, val_main_v125, val_main_v124, val_main_v123]
    exact spread0_apply hnb
  · change val_main_v133 (F := Ideal) x0 (ix3 b n 3) = _
    pointwise [val_main_v133, val_main_v132, val_main_v131, val_main_v130, val_main_v129, val_main_v128, val_main_v127, val_main_v126, val_main_v125, val_main_v124, val_main_v123]
    exact spread1_apply hnb
  · change val_main_v133 (F := Ideal) x0 (ix3 b n 4) = _
    pointwise [val_main_v133, val_main_v132, val_main_v131, val_main_v130, val_main_v129, val_main_v128, val_main_v127, val_main_v126, val_main_v125, val_main_v124, val_main_v123]
    exact spread2_apply hnb
  · change val_main_v133 (F := Ideal) x0 (ix3 b n 5) = _
    pointwise [val_main_v133, val_main_v132, val_main_v131, val_main_v130, val_main_v129, val_main_v128, val_main_v127, val_main_v126, val_main_v125, val_main_v124, val_main_v123]
    exact meanDist_apply hnb
  · change val_main_v133 (F := Ideal) x0 (ix3 b n 6) = _
    pointwise [val_main_v133, val_main_v132, val_main_v131, val_main_v130, val_main_v129, val_main_v128, val_main_v127, val_main_v126, val_main_v125, val_main_v124, val_main_v123]
    exact spreadDist_apply hnb
  · change val_main_v133 (F := Ideal) x0 (ix3 b n 7) = _
    pointwise [val_main_v133, val_main_v132, val_main_v131, val_main_v130, val_main_v129, val_main_v128, val_main_v127, val_main_v126, val_main_v125, val_main_v124, val_main_v123, val_main_v116, val_main_v115, val_main_v114, val_main_cst_27]
    rw [spread0_apply hnb, trace_apply hnb]
    rfl
  · change val_main_v133 (F := Ideal) x0 (ix3 b n 8) = _
    pointwise [val_main_v133, val_main_v132, val_main_v131, val_main_v130, val_main_v129, val_main_v128, val_main_v127, val_main_v126, val_main_v125, val_main_v124, val_main_v123, val_main_v119, val_main_v118, val_main_v117, val_main_cst_28]
    rw [spread1_apply hnb, trace_apply hnb]
    rfl
  · change val_main_v133 (F := Ideal) x0 (ix3 b n 9) = _
    pointwise [val_main_v133, val_main_v132, val_main_v131, val_main_v130, val_main_v129, val_main_v128, val_main_v127, val_main_v126, val_main_v125, val_main_v124, val_main_v123, val_main_v122, val_main_v121, val_main_v120, val_main_cst_29]
    rw [spread2_apply hnb, trace_apply hnb]
    rfl

end Cert.ReferenceIdeal.Rows
-- ==== Proof.RTail.lean ====
/- The reference's networks, from the ten statistics and the features of a point. -/
module

public import proofs.«01_k».proof.Proof.Args
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.Geo
open scoped BigOperators

variable (x0 : Vec Ideal S4x2048x3 .f32) (x1 : Vec Ideal S4x2048x512 .f32) (x2 : Vec Ideal S10x32 .f32) (x3 : Vec Ideal S32 .f32) (x4 : Vec Ideal S32 .f32) (x5 : Vec Ideal S32 .f32) (x6 : Vec Ideal S32x16 .f32) (x7 : Vec Ideal S16 .f32) (x8 : Vec Ideal S528x64 .f32) (x9 : Vec Ideal S64 .f32) (x10 : Vec Ideal S64 .f32) (x11 : Vec Ideal S64 .f32) (x12 : Vec Ideal S64x1 .f32) (x13 : Vec Ideal S1 .f32) (x14 : Vec Ideal S512x512 .f32) (x15 : Vec Ideal S512 .f32) (x16 : Vec Ideal S512 .f32) (x17 : Vec Ideal S512 .f32)
  (b : Fin 4) (n : Fin 2048)

theorem geo1_apply (j : Fin 32) : val_main_v137 (F := Ideal) x0 x2 x3 (ix3 b n j)
    = geo1 (argWeights x2 x3 x4 x5 x6 x7 x8 x9 x10 x11 x12 x13 x14 x15 x16 x17) (fun k => val_main_v133 (F := Ideal) x0 (ix3 b n k)) j := by
  pointwise [val_main_v137, val_main_v136, val_main_v135, val_main_v134]
  rfl

theorem geoNorm_apply (j : Fin 32) : val_main_v163 (F := Ideal) x0 x2 x3 x4 x5 (ix3 b n j)
    = lnRelu (Ideal.ofBits .f32 0x42000000#32) (fun j => val_main_v137 (F := Ideal) x0 x2 x3 (ix3 b n j)) (fun j => x4 (ix1 j)) (fun j => x5 (ix1 j)) j := by
  pointwise [val_main_v163, val_main_v162, val_main_cst_35, val_main_v161, val_main_v160, val_main_v159, val_main_v158, val_main_v157, val_main_v156, val_main_v155, val_main_v154, val_main_v153, val_main_v152, val_main_v151, val_main_cst_34, val_main_v150, val_main_v149, val_main_v148, val_main_v147, val_main_cst_33, val_main_v146, val_main_v145, val_main_cst_32, val_main_v144, val_main_v143, val_main_v142, val_main_v141, val_main_v140, val_main_cst_31, val_main_v139, val_main_v138, val_main_cst_30]
  rfl

theorem geo2_apply (j : Fin 16) : val_main_v167 (F := Ideal) x0 x2 x3 x4 x5 x6 x7 (ix3 b n j)
    = geo2 (argWeights x2 x3 x4 x5 x6 x7 x8 x9 x10 x11 x12 x13 x14 x15 x16 x17) (fun j => val_main_v137 (F := Ideal) x0 x2 x3 (ix3 b n j)) j := by
  pointwise [val_main_v167, val_main_v166, val_main_v165, val_main_v164]
  simp only [geoNorm_apply]
  rfl

theorem edge1_apply (j : Fin 64) : val_main_v172 (F := Ideal) x0 x1 x2 x3 x4 x5 x6 x7 x8 x9 (ix3 b n j)
    = edge1 (argWeights x2 x3 x4 x5 x6 x7 x8 x9 x10 x11 x12 x13 x14 x15 x16 x17) (fun k => x1 (ix3 b n k)) (fun k => val_main_v167 (F := Ideal) x0 x2 x3 x4 x5 x6 x7 (ix3 b n k)) j := by
  pointwise [val_main_v172, val_main_v171, val_main_v170, val_main_v169, val_main_v168]
  rfl

theorem edgeNorm_apply (j : Fin 64) : val_main_v198 (F := Ideal) x0 x1 x2 x3 x4 x5 x6 x7 x8 x9 x10 x11 (ix3 b n j)
    = lnRelu (Ideal.ofBits .f32 0x42800000#32) (fun j => val_main_v172 (F := Ideal) x0 x1 x2 x3 x4 x5 x6 x7 x8 x9 (ix3 b n j)) (fun j => x10 (ix1 j)) (fun j => x11 (ix1 j)) j := by
  pointwise [val_main_v198, val_main_v197, val_main_cst_41, val_main_v196, val_main_v195, val_main_v194, val_main_v193, val_main_v192, val_main_v191, val_main_v190, val_main_v189, val_main_v188, val_main_v187, val_main_v186, val_main_cst_40, val_main_v185, val_main_v184, val_main_v183, val_main_v182, val_main_cst_39, val_main_v181, val_main_v180, val_main_cst_38, val_main_v179, val_main_v178, val_main_v177, val_main_v176, val_main_v175, val_main_cst_37, val_main_v174, val_main_v173, val_main_cst_36]
  rfl

theorem edge2_apply : val_main_v202 (F := Ideal) x0 x1 x2 x3 x4 x5 x6 x7 x8 x9 x10 x11 x12 x13 (ix3 b n 0)
    = edge2 (argWeights x2 x3 x4 x5 x6 x7 x8 x9 x10 x11 x12 x13 x14 x15 x16 x17) (fun j => val_main_v172 (F := Ideal) x0 x1 x2 x3 x4 x5 x6 x7 x8 x9 (ix3 b n j)) := by
  pointwise [val_main_v202, val_main_v201, val_main_v200, val_main_v199]
  simp only [edgeNorm_apply]
  rfl

/-- The gate. -/
theorem gate_apply : val_main_v208 (F := Ideal) x0 x1 x2 x3 x4 x5 x6 x7 x8 x9 x10 x11 x12 x13 (ix3 b n 0)
    = gate (argWeights x2 x3 x4 x5 x6 x7 x8 x9 x10 x11 x12 x13 x14 x15 x16 x17) (fun k => val_main_v133 (F := Ideal) x0 (ix3 b n k)) (fun k => x1 (ix3 b n k)) := by
  pointwise [val_main_v208, val_main_v207, val_main_cst_43, val_main_v206, val_main_v205, val_main_cst_42, val_main_v204, val_main_v203]
  rw [edge2_apply x0 x1 x2 x3 x4 x5 x6 x7 x8 x9 x10 x11 x12 x13 x14 x15 x16 x17]
  simp only [edge1_apply x0 x1 x2 x3 x4 x5 x6 x7 x8 x9 x10 x11 x12 x13 x14 x15 x16 x17, geo2_apply x0 x2 x3 x4 x5 x6 x7 x8 x9 x10 x11 x12 x13 x14 x15 x16 x17, geo1_apply x0 x2 x3 x4 x5 x6 x7 x8 x9 x10 x11 x12 x13 x14 x15 x16 x17]
  rfl

theorem dense_apply (j : Fin 512) : val_main_v212 (F := Ideal) x1 x14 x15 (ix3 b n j)
    = dense (fun k => x1 (ix3 b n k)) (argWeights x2 x3 x4 x5 x6 x7 x8 x9 x10 x11 x12 x13 x14 x15 x16 x17).rw (argWeights x2 x3 x4 x5 x6 x7 x8 x9 x10 x11 x12 x13 x14 x15 x16 x17).rb j := by
  pointwise [val_main_v212, val_main_v211, val_main_v210, val_main_v209]
  rfl

theorem branch_apply (j : Fin 512) : val_main_v238 (F := Ideal) x1 x14 x15 x16 x17 (ix3 b n j)
    = lnRelu (Ideal.ofBits .f32 0x44000000#32) (fun j => val_main_v212 (F := Ideal) x1 x14 x15 (ix3 b n j)) (fun j => x16 (ix1 j)) (fun j => x17 (ix1 j)) j := by
  pointwise [val_main_v238, val_main_v237, val_main_cst_49, val_main_v236, val_main_v235, val_main_v234, val_main_v233, val_main_v232, val_main_v231, val_main_v230, val_main_v229, val_main_v228, val_main_v227, val_main_v226, val_main_cst_48, val_main_v225, val_main_v224, val_main_v223, val_main_v222, val_main_cst_47, val_main_v221, val_main_v220, val_main_cst_46, val_main_v219, val_main_v218, val_main_v217, val_main_v216, val_main_v215, val_main_cst_45, val_main_v214, val_main_v213, val_main_cst_44]
  rfl

/-- The refined features. -/
theorem refined_apply (j : Fin 512) : val_main_v241 (F := Ideal) x0 x1 x2 x3 x4 x5 x6 x7 x8 x9 x10 x11 x12 x13 x14 x15 x16 x17 (ix3 b n j)
    = refined (argWeights x2 x3 x4 x5 x6 x7 x8 x9 x10 x11 x12 x13 x14 x15 x16 x17) (fun k => val_main_v133 (F := Ideal) x0 (ix3 b n k)) (fun k => x1 (ix3 b n k)) j := by
  pointwise [val_main_v241, val_main_v240, val_main_v239]
  rw [gate_apply x0 x1 x2 x3 x4 x5 x6 x7 x8 x9 x10 x11 x12 x13 x14 x15 x16 x17, branch_apply x1 x14 x15 x16 x17]
  simp only [dense_apply x1 x2 x3 x4 x5 x6 x7 x8 x9 x10 x11 x12 x13 x14 x15 x16 x17]
  rfl

end Cert.ReferenceIdeal.Rows
-- ==== Proof.RValue.lean ====
/- The reference's two results as functions of its arguments. -/
module

public import proofs.«01_k».proof.Proof.RPoints
public import proofs.«01_k».proof.Proof.RStats
public import proofs.«01_k».proof.Proof.RTail

@[expose] public section

set_option maxRecDepth 16384

noncomputable section

namespace Cert.ReferenceIdeal.Rows

open Idealize.ShloMosaic Cert.ReferenceIdeal Cert.ReferenceIdeal.Gen Cert.ReferenceIdeal.Read Cert.Geo
open scoped BigOperators

variable (x0 : Vec Ideal S4x2048x3 .f32) (x1 : Vec Ideal S4x2048x512 .f32) (x2 : Vec Ideal S10x32 .f32) (x3 : Vec Ideal S32 .f32) (x4 : Vec Ideal S32 .f32) (x5 : Vec Ideal S32 .f32) (x6 : Vec Ideal S32x16 .f32) (x7 : Vec Ideal S16 .f32) (x8 : Vec Ideal S528x64 .f32) (x9 : Vec Ideal S64 .f32) (x10 : Vec Ideal S64 .f32) (x11 : Vec Ideal S64 .f32) (x12 : Vec Ideal S64x1 .f32) (x13 : Vec Ideal S1 .f32) (x14 : Vec Ideal S512x512 .f32) (x15 : Vec Ideal S512 .f32) (x16 : Vec Ideal S512 .f32) (x17 : Vec Ideal S512 .f32)

/-- The ten statistics of every point. -/
theorem stats_eq (H : NoTie x0 (arrange x0)) (b : Fin 4) (n : Fin 2048) :
    (fun k => val_main_v133 (F := Ideal) x0 (ix3 b n k)) = geoAt x0 (arrange x0) b n :=
  funext fun k => geo_apply (x0 := x0) (b := b) (n := n) (nb := near (point x0 b) (arrange x0 b n))
    (fun k i => (gather_apply x0 b n k i).trans (H.finite b _ i)) k

/-- The refined features. -/
theorem refined_eq (H : NoTie x0 (arrange x0)) : val_main_v241 (F := Ideal) x0 x1 x2 x3 x4 x5 x6 x7 x8 x9 x10 x11 x12 x13 x14 x15 x16 x17
    = fun i => refinedAt (argWeights x2 x3 x4 x5 x6 x7 x8 x9 x10 x11 x12 x13 x14 x15 x16 x17) x0 x1 (arrange x0) (i 0) (i 1) (i 2) := by
  funext i
  obtain ⟨b, n, j, rfl⟩ : ∃ (b : Fin 4) (n : Fin 2048) (j : Fin 512), i = ix3 b n j := ⟨i 0, i 1, i 2, eq_ix3 i⟩
  rw [refined_apply x0 x1 x2 x3 x4 x5 x6 x7 x8 x9 x10 x11 x12 x13 x14 x15 x16 x17 b n j, stats_eq x0 H b n]
  rfl

/-- The gates. -/
theorem gate_eq (H : NoTie x0 (arrange x0)) : val_main_v208 (F := Ideal) x0 x1 x2 x3 x4 x5 x6 x7 x8 x9 x10 x11 x12 x13
    = fun i => gateAt (argWeights x2 x3 x4 x5 x6 x7 x8 x9 x10 x11 x12 x13 x14 x15 x16 x17) x0 x1 (arrange x0) (i 0) (i 1) := by
  funext i
  obtain ⟨b, n, rfl⟩ : ∃ (b : Fin 4) (n : Fin 2048), i = ix3 b n 0 := ⟨i 0, i 1, funext fun a => match a with
    | ⟨0, _⟩ => rfl
    | ⟨1, _⟩ => rfl
    | ⟨2, _⟩ => Subsingleton.elim (α := Fin 1) _ _⟩
  rw [gate_apply x0 x1 x2 x3 x4 x5 x6 x7 x8 x9 x10 x11 x12 x13 x14 x15 x16 x17 b n, stats_eq x0 H b n]
  rfl

end Cert.ReferenceIdeal.Rows
-- ==== Proof.KTopK.lean ====
/- The body's neighbour selection, on its arrays: a round strikes every row's maximum, the fifteen rounds and the
   comparison are the mask of one row (Proof/TopK.lean). -/
module

public import proofs.«01_k».proof.Proof.Gen.KernelIdeal.Skeleton
public import proofs.«01_k».proof.Proof.TopK
public import proofs.«01_k».proof.Proof.Consts

@[expose] public section

set_option maxRecDepth 16384

noncomputable section

namespace Cert.KernelIdeal.Rows

open Idealize.ShloMosaic Cert.KernelIdeal Cert.KernelIdeal.Gen Cert.Geo

/-- Which entries equal their row's maximum. -/
def hits (w : FVec Ideal S256x2048 .f32) : IVec S256x2048 1 :=
  cmpf .oeq w (broadcastTo S256x2048 (shapeCast S256x1 (multiReduction .maximumf [1] S256 w 0xFF800000#32
    reduces_S256x2048_S256 (.inl rfl) rfl) shapeCasts_S256_S256x1) broadcasts_S256x1_S256x2048)

/-- One round on the whole array. -/
def round (w : FVec Ideal S256x2048 .f32) : FVec Ideal S256x2048 .f32 :=
  select (hits w) (broadcast S256x2048 (Scalar.ofBits .f32 0xFF800000#32)) w

/-- The comparison with the rows' maxima, as 0 and 1. -/
def atLeast (v w : FVec Ideal S256x2048 .f32) : FVec Ideal S256x2048 .f32 :=
  sitofp .f32 (extui 32 (cmpf .oge v (broadcastTo S256x2048 (shapeCast S256x1 (multiReduction .maximumf [1] S256 w 0xFF800000#32
    reduces_S256x2048_S256 (.inl rfl) rfl) shapeCasts_S256_S256x1) broadcasts_S256x1_S256x2048)) natLt_1_32)

theorem pay8_eq (v0 : Vec Ideal S1x256x8 .f32) (v2 : Vec Ideal S1x8x2048 .f32) :
    k0_pay8 v0 v2 = round (round (k0_pay7 v0 v2)) := rfl

theorem pay9_eq (v0 : Vec Ideal S1x256x8 .f32) (v2 : Vec Ideal S1x8x2048 .f32) :
    k0_pay9 v0 v2 = hits (k0_pay8 v0 v2) := rfl

theorem pay10_eq (w : FVec Ideal S256x2048 .f32) :
    k0_pay10 w (hits w) = round (round (round (round (round (round (round (round w))))))) := rfl

theorem pay11_eq (v w : FVec Ideal S256x2048 .f32) :
    k0_pay11 v w = atLeast v (round (round (round (round (round w))))) := rfl

/-- A row of the array. -/
abbrev row (w : FVec Ideal S256x2048 .f32) (p : Fin 256) : Fin 2048 → EReal := fun j => w (ix2 p j)

theorem round_row (w : FVec Ideal S256x2048 .f32) (p : Fin 256) : row (round w) p = strike (row w p) := by
  funext j
  show round w (ix2 p j) = _
  pointwise [round, hits]
  simp only [bits_bot]
  rfl

theorem atLeast_row (v w : FVec Ideal S256x2048 .f32) (p : Fin 256) (j : Fin 2048) :
    atLeast v w (ix2 p j) = if rowMax (row w p) ≤ v (ix2 p j) then 1 else 0 := by
  pointwise [atLeast]
  simp only [bits_bot]
  change FloatOps.sitofp (F := Ideal) FTy.f32 (BitVec.setWidth 32 (BitVec.ofBool (decide (rowMax (row w p) ≤ v (ix2 p j))))) = _
  by_cases h : rowMax (row w p) ≤ v (ix2 p j)
  · rw [decide_eq_true h, if_pos h]
    change ((((BitVec.setWidth 32 (BitVec.ofBool true)).toInt : ℤ) : ℝ) : EReal) = 1
    simp
  · rw [decide_eq_false h, if_neg h]
    change ((((BitVec.setWidth 32 (BitVec.ofBool false)).toInt : ℤ) : ℝ) : EReal) = 0
    simp

/-- The mask of the block's row is the mask of its row of scores. -/
theorem pay11_row (v0 : Vec Ideal S1x256x8 .f32) (v2 : Vec Ideal S1x8x2048 .f32) (p : Fin 256) (j : Fin 2048) :
    k0_pay11 (k0_pay7 v0 v2) (k0_pay10 (k0_pay8 v0 v2) (k0_pay9 v0 v2)) (ix2 p j) = mask (row (k0_pay7 v0 v2) p) j := by
  rw [pay9_eq, pay10_eq, pay8_eq, pay11_eq, atLeast_row]
  simp only [round_row]
  rfl

end Cert.KernelIdeal.Rows
-- ==== Proof.KTail.lean ====
/- The kernel body's networks, one row of the block at a time: each stage the body computes after the statistics
   is the row function of Proof/Tail.lean. -/
module

public import proofs.«01_k».proof.Proof.Gen.KernelIdeal.Skeleton
public import proofs.«01_k».proof.Proof.Tail

@[expose] public section

set_option maxRecDepth 16384

noncomputable section

namespace Cert.KernelIdeal.Rows

open Idealize.ShloMosaic Cert.KernelIdeal.Gen Cert.Geo
open scoped BigOperators

/-- The block stored to the first result. -/
theorem pay1_apply (v7 v286 : FVec Ideal S256x512 .f32) (v280 v294 : FVec Ideal S256x1 .f32)
    (v288 v290 : FVec Ideal S1x512 .f32)
    (h : ∀ p, v294 (ix2 p 0) = mean (Ideal.ofBits .f32 0x44000000#32) (fun k => v286 (ix2 p k))) (p : Fin 256) (j : Fin 512) :
    k0_pay1 (F := Ideal) v7 v280 v286 v288 v290 v294 (ix3 0 p j)
      = v7 (ix2 p j) + lnRelu (Ideal.ofBits .f32 0x44000000#32) (fun k => v286 (ix2 p k)) (fun k => v288 (ix2 0 k))
          (fun k => v290 (ix2 0 k)) j * v280 (ix2 p 0) := by
  pointwise [k0_pay1]
  simp only [lnRelu, var, h]

/-- The block stored to the second result. -/
theorem pay2_apply (v280 : FVec Ideal S256x1 .f32) (p : Fin 256) :
    k0_pay2 (F := Ideal) v280 (ix3 0 p 0) = v280 (ix2 p 0) := by
  pointwise [k0_pay2]

/-- A matrix of a tile's weights as a function of its two coordinates. -/
abbrev mat {a b : ℕ} (w : (⟨2, ![a, b]⟩ : Shape).Idx → EReal) (k : Fin a) (j : Fin b) : EReal := w (ix2 k j)

/-- A one-row tile as a row. -/
abbrev vec {b : ℕ} (w : (⟨2, ![1, b]⟩ : Shape).Idx → EReal) (j : Fin b) : EReal := w (ix2 0 j)

/-- The residual branch's dense layer. -/
theorem pay42_apply (v7 : FVec Ideal S256x512 .f32) (w : Vec Ideal S512x512 .f32) (b : Vec Ideal S1x512 .f32)
    (p : Fin 256) (j : Fin 512) :
    k0_pay42 (F := Ideal) v7 w b (ix2 p j) = dense (fun k => v7 (ix2 p k)) (mat w) (vec b) j := by
  pointwise [k0_pay42, dense]

theorem pay43_apply (g : Vec Ideal S1x512 .f32) (j : Fin 512) : k0_pay43 (F := Ideal) g (ix2 0 j) = vec g j := by
  pointwise [k0_pay43]

theorem pay44_apply (g : Vec Ideal S1x512 .f32) (j : Fin 512) : k0_pay44 (F := Ideal) g (ix2 0 j) = vec g j := by
  pointwise [k0_pay44]

/-- The mean of the residual branch's dense layer. -/
theorem pay45_apply (v7 : FVec Ideal S256x512 .f32) (w : Vec Ideal S512x512 .f32) (b : Vec Ideal S1x512 .f32) (p : Fin 256) :
    k0_pay45 (F := Ideal) v7 w b (ix2 p 0)
      = mean (Ideal.ofBits .f32 0x44000000#32) (fun k => k0_pay42 (F := Ideal) v7 w b (ix2 p k)) := by
  pointwise [k0_pay45]
  rfl

/-- The gate, from its first layer's row. -/
theorem pay41_apply (v241 : FVec Ideal S256x64 .f32) (v243 v245 : FVec Ideal S1x64 .f32) (v249 : FVec Ideal S256x1 .f32)
    (v253 : FVec Ideal S256 .f32) (w : Vec Ideal S1x64 .f32) (b : Vec Ideal S1x1 .f32) (p : Fin 256)
    (h : v249 (ix2 p 0) = mean (Ideal.ofBits .f32 0x42800000#32) (fun k => v241 (ix2 p k)))
    (h' : v253 (ix1 p) = ∑ k, (v241 (ix2 p k) - v249 (ix2 p 0)) * (v241 (ix2 p k) - v249 (ix2 p 0))) :
    k0_pay41 (F := Ideal) v241 v243 v245 v249 v253 w b (ix2 p 0)
      = Ideal.logistic ((∑ k, lnRelu (Ideal.ofBits .f32 0x42800000#32) (fun k => v241 (ix2 p k)) (fun k => v243 (ix2 0 k))
          (fun k => v245 (ix2 0 k)) k * vec w k) + b (ix2 0 0)) := by
  pointwise [k0_pay41]
  simp only [lnRelu, var, h', h, vec]

theorem pay37_apply (g : Vec Ideal S1x64 .f32) (j : Fin 64) : k0_pay37 (F := Ideal) g (ix2 0 j) = vec g j := by
  pointwise [k0_pay37]

theorem pay38_apply (g : Vec Ideal S1x64 .f32) (j : Fin 64) : k0_pay38 (F := Ideal) g (ix2 0 j) = vec g j := by
  pointwise [k0_pay38]

/-- The gate's first layer. -/
theorem pay36_apply (v7 : FVec Ideal S256x512 .f32) (v198 v200 : FVec Ideal S1x32 .f32) (v211 : FVec Ideal S256x1 .f32)
    (v213 : FVec Ideal S256x32 .f32) (v214 : FVec Ideal S256x1 .f32) (w2 : Vec Ideal S32x16 .f32) (b2 : Vec Ideal S1x16 .f32)
    (wf : Vec Ideal S512x64 .f32) (wg : Vec Ideal S16x64 .f32) (b : Vec Ideal S1x64 .f32) (x : Fin 32 → EReal) (p : Fin 256) (j : Fin 64)
    (h : ∀ k, v213 (ix2 p k) = x k - mean (Ideal.ofBits .f32 0x42000000#32) x)
    (h' : v211 (ix2 p 0) = var (Ideal.ofBits .f32 0x42000000#32) x)
    (h'' : v214 (ix2 p 0) = Ideal.ofBits .f32 0x3727C5AC#32) :
    k0_pay36 (F := Ideal) v7 v198 v200 v211 v213 v214 w2 b2 wf wg b (ix2 p j)
      = ((∑ k, v7 (ix2 p k) * mat wf k j)
          + ∑ k, dense (lnRelu (Ideal.ofBits .f32 0x42000000#32) x (fun k => v198 (ix2 0 k)) (fun k => v200 (ix2 0 k)))
              (mat w2) (vec b2) k * mat wg k j) + vec b j := by
  pointwise [k0_pay36]
  simp only [lnRelu, dense, h, h', h'']

/-- The mean of the gate's first layer. -/
theorem pay39_apply (v7 : FVec Ideal S256x512 .f32) (v198 v200 : FVec Ideal S1x32 .f32) (v211 : FVec Ideal S256x1 .f32)
    (v213 : FVec Ideal S256x32 .f32) (v214 : FVec Ideal S256x1 .f32) (w2 : Vec Ideal S32x16 .f32) (b2 : Vec Ideal S1x16 .f32)
    (wf : Vec Ideal S512x64 .f32) (wg : Vec Ideal S16x64 .f32) (b : Vec Ideal S1x64 .f32) (p : Fin 256) :
    k0_pay39 (F := Ideal) v7 v198 v200 v211 v213 v214 w2 b2 wf wg b (ix2 p 0)
      = mean (Ideal.ofBits .f32 0x42800000#32)
          (fun k => k0_pay36 (F := Ideal) v7 v198 v200 v211 v213 v214 w2 b2 wf wg b (ix2 p k)) := by
  pointwise [k0_pay39]
  rfl

/-- The sum of its squared deviations. -/
theorem pay40_apply (v7 : FVec Ideal S256x512 .f32) (v198 v200 : FVec Ideal S1x32 .f32) (v211 : FVec Ideal S256x1 .f32)
    (v213 : FVec Ideal S256x32 .f32) (v214 : FVec Ideal S256x1 .f32) (w2 : Vec Ideal S32x16 .f32) (b2 : Vec Ideal S1x16 .f32)
    (wf : Vec Ideal S512x64 .f32) (wg : Vec Ideal S16x64 .f32) (b : Vec Ideal S1x64 .f32) (p : Fin 256) :
    k0_pay40 (F := Ideal) v7 v198 v200 v211 v213 v214 w2 b2 wf wg b (ix1 p)
      = ∑ k, (k0_pay36 (F := Ideal) v7 v198 v200 v211 v213 v214 w2 b2 wf wg b (ix2 p k)
            - k0_pay39 (F := Ideal) v7 v198 v200 v211 v213 v214 w2 b2 wf wg b (ix2 p 0))
          * (k0_pay36 (F := Ideal) v7 v198 v200 v211 v213 v214 w2 b2 wf wg b (ix2 p k)
            - k0_pay39 (F := Ideal) v7 v198 v200 v211 v213 v214 w2 b2 wf wg b (ix2 p 0)) := by
  pointwise [k0_pay40]

theorem pay30_apply (g : Vec Ideal S1x32 .f32) (j : Fin 32) : k0_pay30 (F := Ideal) g (ix2 0 j) = vec g j := by
  pointwise [k0_pay30]

theorem pay31_apply (g : Vec Ideal S1x32 .f32) (j : Fin 32) : k0_pay31 (F := Ideal) g (ix2 0 j) = vec g j := by
  pointwise [k0_pay31]

theorem pay35_apply (p : Fin 256) : k0_pay35 (F := Ideal) (ix2 p 0) = Ideal.ofBits .f32 0x3727C5AC#32 := by
  pointwise [k0_pay35]

section Stats
variable (v132 v136 v142 v147 v152 v171 v173 : FVec Ideal S256x1 .f32) (w : Vec Ideal S16x32 .f32) (b : Vec Ideal S1x32 .f32)

/-- The mean of the statistics' first layer. -/
theorem pay32_apply (p : Fin 256) : k0_pay32 (F := Ideal) v132 v136 v142 v147 v152 v171 v173 w b (ix2 p 0)
      = mean (Ideal.ofBits .f32 0x42000000#32) (fun k => k0_pay29 (F := Ideal) v132 v136 v142 v147 v152 v171 v173 w b (ix2 p k)) := by
  pointwise [k0_pay32]
  rfl

/-- Its mean square deviation. -/
theorem pay33_apply (p : Fin 256) : k0_pay33 (F := Ideal) v132 v136 v142 v147 v152 v171 v173 w b (ix2 p 0)
      = var (Ideal.ofBits .f32 0x42000000#32) (fun k => k0_pay29 (F := Ideal) v132 v136 v142 v147 v152 v171 v173 w b (ix2 p k)) := by
  pointwise [k0_pay33]
  simp only [pay32_apply, var]

/-- Its deviation from the mean. -/
theorem pay34_apply (p : Fin 256) (j : Fin 32) : k0_pay34 (F := Ideal) v132 v136 v142 v147 v152 v171 v173 w b (ix2 p j)
      = k0_pay29 (F := Ideal) v132 v136 v142 v147 v152 v171 v173 w b (ix2 p j)
        - mean (Ideal.ofBits .f32 0x42000000#32) (fun k => k0_pay29 (F := Ideal) v132 v136 v142 v147 v152 v171 v173 w b (ix2 p k)) := by
  pointwise [k0_pay34]
  simp only [pay32_apply]

/-- The ten statistics of a row of the block: the seven the body computes apart, the spread of the distances, and
    the three ratios. -/
def stats (p : Fin 256) : Fin 10 → EReal :=
  ![v132 (ix2 p 0), v136 (ix2 p 0), v142 (ix2 p 0), v147 (ix2 p 0), v152 (ix2 p 0), v173 (ix2 p 0),
    Ideal.sqrt (max (v171 (ix2 p 0) - Ideal.ofBits .f32 0x41800000#32 * v173 (ix2 p 0) * v173 (ix2 p 0)) 0
      * ((1 / 15 : ℝ) : EReal)),
    Ideal.div (v142 (ix2 p 0)) (v132 (ix2 p 0) + Ideal.ofBits .f32 0x358637BD#32),
    Ideal.div (v147 (ix2 p 0)) (v132 (ix2 p 0) + Ideal.ofBits .f32 0x358637BD#32),
    Ideal.div (v152 (ix2 p 0)) (v132 (ix2 p 0) + Ideal.ofBits .f32 0x358637BD#32)]

/-- The statistics' first layer: the body lays the ten statistics and six zeros side by side and multiplies by the
    padded weights; the six zeros add nothing. -/
theorem pay29_apply (p : Fin 256) (j : Fin 32) : k0_pay29 (F := Ideal) v132 v136 v142 v147 v152 v171 v173 w b (ix2 p j)
      = dense (stats v132 v136 v142 v147 v152 v171 v173 p) (fun k j => w (ix2 (k.castLE (by norm_num)) j)) (vec b) j := by
  have hc : Named.named (F := Ideal) Cert.KernelIdeal.κ "inv15" (φ := .f32) 0x3D888889#32 = ((1 / 15 : ℝ) : EReal) :=
    IdealRules.named_const.ideal_named_scalar _ _ _ _ rfl
  pointwise [k0_pay29]
  simp only [hc, dense]
  refine congrArg (fun s => s + b (ix2 0 j)) ?_
  refine (Fin.sum_univ_add (a := 10) (b := 6) _).trans ?_
  have hz : ∀ a c : EReal, c = 0 → a + c = a := fun a c h => by rw [h, add_zero]
  refine (hz _ _ (Finset.sum_eq_zero fun k _ => ?_)).trans (Finset.sum_congr rfl fun k _ => ?_)
  · simp only [Fin.val_natAdd]
    rw [dif_neg (by omega), dif_neg (by omega), dif_neg (by omega), dif_neg (by omega), dif_neg (by omega),
      dif_neg (by omega), dif_neg (by omega), dif_neg (by omega), dif_neg (by omega), dif_neg (by omega), zero_mul]
  · fin_cases k <;> rfl

end Stats

end Cert.KernelIdeal.Rows
-- ==== Proof.KStats.lean ====
/- The statistics of one row of the body's block: the masked moments of the padded coordinates are the statistics of
   the sixteen selected points. -/
module

public import proofs.«01_k».proof.Proof.KTopK
public import proofs.«01_k».proof.Proof.KTail
public import proofs.«01_k».proof.Proof.Stats

@[expose] public section

set_option maxRecDepth 16384

noncomputable section

namespace Cert.KernelIdeal.Rows

open Idealize.ShloMosaic Cert.KernelIdeal Cert.KernelIdeal.Gen Cert.Geo
open scoped BigOperators

/-- A point's three coordinates, padded to eight with zeros. -/
def pad8 (v : Fin 3 → ℝ) (i : Fin 8) : ℝ := if h : i.val < 3 then v ⟨i.val, h⟩ else 0

theorem sum_pad8 (u v : Fin 3 → ℝ) : ∑ i, pad8 u i * pad8 v i = ∑ i, u i * v i := by
  simp [Fin.sum_univ_succ, pad8]

/-- The scores after ten rounds. -/
abbrev struck (v0 : Vec Ideal S1x256x8 .f32) (v2 : Vec Ideal S1x8x2048 .f32) : FVec Ideal S256x2048 .f32 :=
  k0_pay10 (k0_pay8 v0 v2) (k0_pay9 v0 v2)

/-- The mask of the chosen points. -/
abbrev chosen (v0 : Vec Ideal S1x256x8 .f32) (v2 : Vec Ideal S1x8x2048 .f32) : FVec Ideal S256x2048 .f32 :=
  k0_pay11 (k0_pay7 v0 v2) (struck v0 v2)

/-- The chosen points' centre. -/
abbrev centre (v0 : Vec Ideal S1x256x8 .f32) (v2 : Vec Ideal S1x8x2048 .f32) (v4 : Vec Ideal S1x2048x16 .f32) :
    FVec Ideal S256x8 .f32 := k0_pay13 (k0_pay4 v4) (k0_pay7 v0 v2) (struck v0 v2)

/-- Sixteen times their variance. -/
abbrev moment (v0 : Vec Ideal S1x256x8 .f32) (v2 : Vec Ideal S1x8x2048 .f32) (v4 : Vec Ideal S1x2048x16 .f32) :
    FVec Ideal S256x8 .f32 := k0_pay14 (k0_pay4 v4) (k0_pay7 v0 v2) (struck v0 v2)

section Block
variable (v0 : Vec Ideal S1x256x8 .f32) (v2 : Vec Ideal S1x8x2048 .f32) (v4 : Vec Ideal S1x2048x16 .f32)
  (p : Fin 256) (q : Fin 3 → ℝ) (P : Fin 2048 → Fin 3 → ℝ)

/-- The block's arrays hold the query and the points, padded. -/
structure Holds : Prop where
  query : ∀ i, v0 (ix3 0 p i) = (pad8 q i : EReal)
  points : ∀ i j, v2 (ix3 0 i j) = (pad8 (P j) i : EReal)
  first : ∀ j (i : Fin 8), v4 (ix3 0 j (i.castLE (by norm_num))) = (pad8 (P j) i : EReal)
  second : ∀ j (i : Fin 8), v4 (ix3 0 j ⟨8 + i.val, by omega⟩) = ((pad8 (P j) i * pad8 (P j) i : ℝ) : EReal)

variable {v0 v2 v4 p q P} (H : Holds v0 v2 v4 p q P)
include H

theorem pay6_apply (j : Fin 2048) : k0_pay6 v2 (ix2 0 j) = ((∑ i, P j i * P j i : ℝ) : EReal) := by
  pointwise [k0_pay6, k0_pay3]
  simp only [H.points, ← EReal.coe_mul, ← coe_sum, sum_pad8]

theorem pay7_apply (j : Fin 2048) : k0_pay7 v0 v2 (ix2 p j) = (score q P j : EReal) := by
  pointwise [k0_pay7, k0_pay3, k0_pay6]
  simp only [H.query, H.points, bits_two, ← EReal.coe_mul, ← coe_sum, ← EReal.coe_sub, sum_pad8, score]

theorem scores_row : row (k0_pay7 v0 v2) p = fun j => (score q P j : EReal) := funext fun j => pay7_apply H j

variable {σ : Fin 2048 → Fin 2048} (hσ : Sorted (fun j => (score q P j : EReal)) σ)
include hσ

theorem masked_sum (g : Fin 2048 → EReal) :
    ∑ j, chosen v0 v2 (ix2 p j) * g j = ∑ k, g (pick σ k) := by
  simp only [pay11_row, scores_row H]
  exact hσ.sum_mask g

theorem pay12_apply (i : Fin 16) : k0_pay12 (k0_pay4 v4) (k0_pay7 v0 v2) (struck v0 v2) (ix2 p i)
    = ∑ k, v4 (ix3 0 (pick σ k) i) := by
  rw [← masked_sum H hσ fun j => v4 (ix3 0 j i)]
  pointwise [k0_pay12, k0_pay4]

/-- The centre. -/
theorem pay13_apply (i : Fin 8) : (centre v0 v2 v4) (ix2 p i)
    = (pad8 (fun i => mean16 fun k => near P σ k i) i : EReal) := by
  have e : (centre v0 v2 v4) (ix2 p i)
      = k0_pay12 (k0_pay4 v4) (k0_pay7 v0 v2) (struck v0 v2) (ix2 p (i.castLE (by norm_num))) * Ideal.ofBits .f32 0x3D800000#32 := by
    pointwise [centre, struck, k0_pay13]
    rfl
  rw [e, pay12_apply H hσ]
  simp only [H.first, bits_sixteenth, ← coe_sum, ← EReal.coe_mul, EReal.coe_eq_coe_iff]
  unfold pad8
  split
  · rw [mul_one_div]
    rfl
  · simp

/-- Sixteen times the variance. -/
theorem pay14_apply (i : Fin 3) : moment v0 v2 v4 (ix2 p (i.castLE (by norm_num)))
    = (ssd (near P σ) i : EReal) := by
  have e : moment v0 v2 v4 (ix2 p (i.castLE (by norm_num)))
      = k0_pay12 (k0_pay4 v4) (k0_pay7 v0 v2) (struck v0 v2) (ix2 p ⟨8 + i.val, by omega⟩)
        - Ideal.ofBits .f32 0x41800000#32 * (centre v0 v2 v4) (ix2 p (i.castLE (by norm_num)))
          * (centre v0 v2 v4) (ix2 p (i.castLE (by norm_num))) := by
    pointwise [k0_pay14]
    try rfl
  rw [e, pay12_apply H hσ, pay13_apply H hσ]
  have hi : (i.castLE (by norm_num : 3 ≤ 8)).val < 3 := i.isLt
  have h2 := fun k => H.second (pick σ k) (i.castLE (by norm_num))
  simp only [Fin.val_castLE] at h2
  simp only [h2, bits_sixteen, ← coe_sum, ← EReal.coe_mul, ← EReal.coe_sub, EReal.coe_eq_coe_iff]
  rw [ssd_eq]
  simp only [pad8, Fin.val_castLE, i.isLt, dite_true]

/-- The body's squared distances from the centre, at a selected point. -/
theorem pay26_apply (k : Fin 16) :
    k0_pay26 (k0_pay3 v2) (k0_pay6 v2) ((centre v0 v2 v4)) (ix2 p (pick σ k))
      = (sqd (near P σ) k : EReal) := by
  pointwise [k0_pay26, k0_pay3]
  simp only [pay13_apply H hσ, pay6_apply H, H.points, bits_two, ← coe_sum, ← EReal.coe_mul, ← EReal.coe_sub,
    ← EReal.coe_add, sum_pad8]
  rw [← EReal.coe_zero, ← coe_max, ← sqd_eq, max_eq_left (sqd_nonneg _ _)]

theorem pay27_apply : k0_pay27 (k0_pay3 v2) (k0_pay6 v2) (chosen v0 v2) (centre v0 v2 v4) (ix2 p 0) = ((∑ k, sqd (near P σ) k : ℝ) : EReal) := by
  rw [coe_sum, Finset.sum_congr rfl fun k _ => (pay26_apply H hσ k).symm,
    ← masked_sum H hσ fun j => k0_pay26 (k0_pay3 v2) (k0_pay6 v2) (centre v0 v2 v4) (ix2 p j)]
  pointwise [k0_pay27]

theorem pay28_apply : k0_pay28 (k0_pay3 v2) (k0_pay6 v2) (chosen v0 v2) (centre v0 v2 v4) (ix2 p 0) = (mean16 (Cert.Geo.dist (near P σ)) : EReal) := by
  have e : k0_pay28 (k0_pay3 v2) (k0_pay6 v2) (chosen v0 v2) (centre v0 v2 v4) (ix2 p 0)
      = (∑ j, (chosen v0 v2) (ix2 p j) * Ideal.sqrt (k0_pay26 (k0_pay3 v2) (k0_pay6 v2) (centre v0 v2 v4) (ix2 p j))) * Ideal.ofBits .f32 0x3D800000#32 := by
    pointwise [k0_pay28]
  rw [e, masked_sum H hσ fun j => Ideal.sqrt (k0_pay26 (k0_pay3 v2) (k0_pay6 v2) (centre v0 v2 v4) (ix2 p j))]
  simp only [pay26_apply H hσ, sqrt_real (sqd_nonneg _ _), bits_sixteenth, ← coe_sum, ← EReal.coe_mul]
  rw [mul_one_div]
  rfl

/-- The variance along the first axis. -/
theorem pay17_apply : k0_pay17 (moment v0 v2 v4) (k0_pay15 (F := Ideal)) (ix2 p 0) = ((ssd (near P σ) 0 / 16 : ℝ) : EReal) := by
  rw [← mul_one_div, EReal.coe_mul, ← pay14_apply H hσ 0, ← bits_sixteenth]
  pointwise [k0_pay17, k0_pay16, k0_pay15]
  rfl

theorem pay18_apply : k0_pay18 (moment v0 v2 v4) (k0_pay15 (F := Ideal)) (ix2 p 0) = ((ssd (near P σ) 1 / 16 : ℝ) : EReal) := by
  rw [← mul_one_div, EReal.coe_mul, ← pay14_apply H hσ 1, ← bits_sixteenth]
  pointwise [k0_pay18, k0_pay16, k0_pay15]
  rfl

theorem pay19_apply : k0_pay19 (moment v0 v2 v4) (k0_pay15 (F := Ideal)) (ix2 p 0) = ((ssd (near P σ) 2 / 16 : ℝ) : EReal) := by
  rw [← mul_one_div, EReal.coe_mul, ← pay14_apply H hσ 2, ← bits_sixteenth]
  pointwise [k0_pay19, k0_pay16, k0_pay15]
  rfl

theorem pay20_apply : k0_pay20 (moment v0 v2 v4) (k0_pay15 (F := Ideal)) (ix2 p 0) = (trace (near P σ) : EReal) := by
  pointwise [k0_pay20]
  simp only [pay17_apply H hσ, pay18_apply H hσ, pay19_apply H hσ, ← EReal.coe_add, trace]

theorem pay21_apply : k0_pay21 (moment v0 v2 v4) (k0_pay15 (F := Ideal)) (ix2 p 0)
    = max (Ideal.ofBits .f32 0x322BCC77#32)
        ((ssd (near P σ) 0 / 16 * (ssd (near P σ) 1 / 16) * (ssd (near P σ) 2 / 16) : ℝ) : EReal) := by
  pointwise [k0_pay21]
  simp only [pay17_apply H hσ, pay18_apply H hσ, pay19_apply H hσ, ← EReal.coe_mul]

omit H hσ in
theorem spread_aux (x : ℝ) (hx : 0 ≤ x) :
    Ideal.sqrt (max (((x / 16 : ℝ) : EReal) * k0_pay22 (F := Ideal)) 0) = (Real.sqrt (x / 15) : EReal) := by
  have e : k0_pay22 (F := Ideal) = ((16 / 15 : ℝ) : EReal) := by
    rw [← div_real 16 (by norm_num : (15 : ℝ) ≠ 0), ← bits_sixteen, ← bits_fifteen]
    rfl
  rw [e, ← EReal.coe_mul, ← EReal.coe_zero, ← coe_max, show x / 16 * (16 / 15) = x / 15 by ring,
    max_eq_left (div_nonneg hx (by norm_num)), sqrt_real (div_nonneg hx (by norm_num))]

theorem pay23_apply : k0_pay23 (moment v0 v2 v4) (k0_pay15 (F := Ideal)) (ix2 p 0) = (spread (near P σ) 0 : EReal) := by
  pointwise [k0_pay23]
  rw [pay17_apply H hσ]
  exact spread_aux _ (ssd_nonneg _ _)

theorem pay24_apply : k0_pay24 (moment v0 v2 v4) (k0_pay15 (F := Ideal)) (ix2 p 0) = (spread (near P σ) 1 : EReal) := by
  pointwise [k0_pay24]
  rw [pay18_apply H hσ]
  exact spread_aux _ (ssd_nonneg _ _)

theorem pay25_apply : k0_pay25 (moment v0 v2 v4) (k0_pay15 (F := Ideal)) (ix2 p 0) = (spread (near P σ) 2 : EReal) := by
  pointwise [k0_pay25]
  rw [pay19_apply H hσ]
  exact spread_aux _ (ssd_nonneg _ _)

/-- The body's ten statistics of a row are the ten statistics of the sixteen chosen points. -/
theorem stats_eq : stats (k0_pay20 (moment v0 v2 v4) k0_pay15) (k0_pay21 (moment v0 v2 v4) k0_pay15)
    (k0_pay23 (moment v0 v2 v4) k0_pay15) (k0_pay24 (moment v0 v2 v4) k0_pay15) (k0_pay25 (moment v0 v2 v4) k0_pay15)
    (k0_pay27 (k0_pay3 v2) (k0_pay6 v2) (chosen v0 v2) (centre v0 v2 v4))
    (k0_pay28 (k0_pay3 v2) (k0_pay6 v2) (chosen v0 v2) (centre v0 v2 v4)) p = Cert.Geo.geo (near P σ) := by
  unfold stats Cert.Geo.geo
  rw [pay20_apply H hσ, pay21_apply H hσ, pay23_apply H hσ, pay24_apply H hσ, pay25_apply H hσ, pay27_apply H hσ,
    pay28_apply H hσ, bits_sixteen]
  have e : Ideal.sqrt (max (((∑ k, sqd (near P σ) k : ℝ) : EReal)
      - ((16 : ℝ) : EReal) * (mean16 (Cert.Geo.dist (near P σ)) : EReal) * (mean16 (Cert.Geo.dist (near P σ)) : EReal)) 0
      * ((1 / 15 : ℝ) : EReal)) = (Real.sqrt (ssdDist (near P σ) / 15) : EReal) := by
    rw [← EReal.coe_mul, ← EReal.coe_mul, ← EReal.coe_sub, ← ssdDist_eq, ← EReal.coe_zero, ← coe_max,
      max_eq_left (ssdDist_nonneg _), ← EReal.coe_mul, mul_one_div, sqrt_real (div_nonneg (ssdDist_nonneg _) (by norm_num))]
  rw [e]

end Block

end Cert.KernelIdeal.Rows
-- ==== Proof.KBlock.lean ====
/- What one run of the body leaves in its two result blocks: the refined features and the gate of every row, from the
   row's features and the statistics of the sixteen points its scores choose. -/
module

public import proofs.«01_k».proof.Proof.Gen.KernelIdeal.Frame
public import proofs.«01_k».proof.Proof.KStats
public import Idealize.ShloMosaic.Lib.Pipeline.Value

@[expose] public section

set_option maxRecDepth 16384

noncomputable section

namespace Cert.KernelIdeal.Rows

open Idealize.ShloMosaic Cert.KernelIdeal Cert.KernelIdeal.Gen Cert.Geo
open scoped BigOperators

/-- The networks' weights, from the blocks that stage them. -/
def weights (x4 : Vec Ideal S16x32 .f32) (x5 : Vec Ideal S1x32 .f32) (x6 : Vec Ideal S1x32 .f32) (x7 : Vec Ideal S1x32 .f32) (x8 : Vec Ideal S32x16 .f32) (x9 : Vec Ideal S1x16 .f32) (x10 : Vec Ideal S512x64 .f32) (x11 : Vec Ideal S16x64 .f32) (x12 : Vec Ideal S1x64 .f32) (x13 : Vec Ideal S1x64 .f32) (x14 : Vec Ideal S1x64 .f32) (x15 : Vec Ideal S1x64 .f32) (x16 : Vec Ideal S1x1 .f32) (x17 : Vec Ideal S512x512 .f32) (x18 : Vec Ideal S1x512 .f32) (x19 : Vec Ideal S1x512 .f32) (x20 : Vec Ideal S1x512 .f32) : Weights where
  gw1 k j := x4 (ix2 (k.castLE (by norm_num)) j)
  gb1 := vec x5
  gg := vec x6
  gb := vec x7
  gw2 := mat x8
  gb2 := vec x9
  ewf := mat x10
  ewg := mat x11
  eb1 := vec x12
  eg := vec x13
  eb := vec x14
  ew2 := vec x15
  eb2 := x16 (ix2 0 0)
  rw := mat x17
  rb := vec x18
  rg := vec x19
  rbt := vec x20

theorem zero2 : (![0, 0] : Fin 2 → Nat) = fun _ => 0 := funext fun a => by fin_cases a <;> rfl
theorem zero3 : (![0, 0, 0] : Fin 3 → Nat) = fun _ => 0 := funext fun a => by fin_cases a <;> rfl

section Block
variable (x0 : Vec Ideal S1x256x8 .f32) (x1 : Vec Ideal S1x8x2048 .f32) (x2 : Vec Ideal S1x2048x16 .f32) (x3 : Vec Ideal S1x256x512 .f32) (x4 : Vec Ideal S16x32 .f32) (x5 : Vec Ideal S1x32 .f32) (x6 : Vec Ideal S1x32 .f32) (x7 : Vec Ideal S1x32 .f32) (x8 : Vec Ideal S32x16 .f32) (x9 : Vec Ideal S1x16 .f32) (x10 : Vec Ideal S512x64 .f32) (x11 : Vec Ideal S16x64 .f32) (x12 : Vec Ideal S1x64 .f32) (x13 : Vec Ideal S1x64 .f32) (x14 : Vec Ideal S1x64 .f32) (x15 : Vec Ideal S1x64 .f32) (x16 : Vec Ideal S1x1 .f32) (x17 : Vec Ideal S512x512 .f32) (x18 : Vec Ideal S1x512 .f32) (x19 : Vec Ideal S1x512 .f32) (x20 : Vec Ideal S1x512 .f32)
  (p : Fin 256) (q : Fin 3 → ℝ) (P : Fin 2048 → Fin 3 → ℝ) (σ : Fin 2048 → Fin 2048)

/-- A row of the features' block. -/
abbrev feat (x3 : Vec Ideal S1x256x512 .f32) (p : Fin 256) (k : Fin 512) : EReal := x3 (ix3 0 p k)

theorem pay48_apply (k : Fin 512) : k0_pay48 x0 x1 x2 x3 x4 x5 x6 x7 x8 x9 x10 x11 x12 x13 x14 x15 x16 x17 x18 x19 x20 (ix2 p k) = feat x3 p k := by
  unfold k0_pay48
  rw [View.ld_unit_zero (S := S1x256x512) zero3]
  pointwise [k0_pay5]

variable (H : Holds x0 x1 x2 p q P) (hσ : Sorted (fun j => (score q P j : EReal)) σ)
include H hσ

/-- The statistics' first layer, on the block's row. -/
theorem first_layer (j : Fin 32) : k0_pay29 (k0_pay56 x0 x1 x2 x3 x4 x5 x6 x7 x8 x9 x10 x11 x12 x13 x14 x15 x16 x17 x18 x19 x20) (k0_pay57 x0 x1 x2 x3 x4 x5 x6 x7 x8 x9 x10 x11 x12 x13 x14 x15 x16 x17 x18 x19 x20)
    (k0_pay58 x0 x1 x2 x3 x4 x5 x6 x7 x8 x9 x10 x11 x12 x13 x14 x15 x16 x17 x18 x19 x20) (k0_pay59 x0 x1 x2 x3 x4 x5 x6 x7 x8 x9 x10 x11 x12 x13 x14 x15 x16 x17 x18 x19 x20)
    (k0_pay60 x0 x1 x2 x3 x4 x5 x6 x7 x8 x9 x10 x11 x12 x13 x14 x15 x16 x17 x18 x19 x20) (k0_pay61 x0 x1 x2 x3 x4 x5 x6 x7 x8 x9 x10 x11 x12 x13 x14 x15 x16 x17 x18 x19 x20)
    (k0_pay62 x0 x1 x2 x3 x4 x5 x6 x7 x8 x9 x10 x11 x12 x13 x14 x15 x16 x17 x18 x19 x20) x4 x5 (ix2 p j)
      = geo1 (weights x4 x5 x6 x7 x8 x9 x10 x11 x12 x13 x14 x15 x16 x17 x18 x19 x20) (Cert.Geo.geo (near P σ)) j := by
  rw [pay29_apply]
  unfold k0_pay56 k0_pay57 k0_pay58 k0_pay59 k0_pay60 k0_pay61 k0_pay62 k0_pay52 k0_pay53 k0_pay54 k0_pay51 k0_pay50 k0_pay55
    k0_pay46 k0_pay47 k0_pay49
  rw [View.ld_unit_zero (S := S1x256x8) zero3, View.ld_unit_zero (S := S1x8x2048) zero3, View.ld_unit_zero (S := S1x2048x16) zero3]
  rw [stats_eq H hσ]
  rfl

/-- The gate's first layer. -/
theorem edge_layer (j : Fin 64) : k0_pay36 (k0_pay48 x0 x1 x2 x3 x4 x5 x6 x7 x8 x9 x10 x11 x12 x13 x14 x15 x16 x17 x18 x19 x20) (k0_pay63 x0 x1 x2 x3 x4 x5 x6 x7 x8 x9 x10 x11 x12 x13 x14 x15 x16 x17 x18 x19 x20)
    (k0_pay64 x0 x1 x2 x3 x4 x5 x6 x7 x8 x9 x10 x11 x12 x13 x14 x15 x16 x17 x18 x19 x20) (k0_pay65 x0 x1 x2 x3 x4 x5 x6 x7 x8 x9 x10 x11 x12 x13 x14 x15 x16 x17 x18 x19 x20)
    (k0_pay66 x0 x1 x2 x3 x4 x5 x6 x7 x8 x9 x10 x11 x12 x13 x14 x15 x16 x17 x18 x19 x20) (k0_pay67 x0 x1 x2 x3 x4 x5 x6 x7 x8 x9 x10 x11 x12 x13 x14 x15 x16 x17 x18 x19 x20) x8 x9 x10 x11 x12 (ix2 p j)
      = edge1 (weights x4 x5 x6 x7 x8 x9 x10 x11 x12 x13 x14 x15 x16 x17 x18 x19 x20) (feat x3 p)
          (geo2 (weights x4 x5 x6 x7 x8 x9 x10 x11 x12 x13 x14 x15 x16 x17 x18 x19 x20) (geo1 (weights x4 x5 x6 x7 x8 x9 x10 x11 x12 x13 x14 x15 x16 x17 x18 x19 x20) (Cert.Geo.geo (near P σ)))) j := by
  have e := first_layer x0 x1 x2 x3 x4 x5 x6 x7 x8 x9 x10 x11 x12 x13 x14 x15 x16 x17 x18 x19 x20 p q P σ H hσ
  rw [pay36_apply (x := geo1 (weights x4 x5 x6 x7 x8 x9 x10 x11 x12 x13 x14 x15 x16 x17 x18 x19 x20) (Cert.Geo.geo (near P σ)))]
  · simp only [pay48_apply]
    unfold k0_pay63 k0_pay64
    simp only [pay30_apply, pay31_apply]
    rw [View.ld_unit_zero (S := S1x32) zero2, View.ld_unit_zero (S := S1x32) zero2]
    rfl
  · intro k
    unfold k0_pay66
    rw [View.ld_unit_zero (S := S16x32) zero2, View.ld_unit_zero (S := S1x32) zero2, pay34_apply]
    simp only [e]
  · unfold k0_pay65
    rw [View.ld_unit_zero (S := S16x32) zero2, View.ld_unit_zero (S := S1x32) zero2, pay33_apply]
    simp only [e]
  · unfold k0_pay67
    rw [pay35_apply]

/-- The gate of the block's row. -/
theorem gate_apply : k0_pay68 x0 x1 x2 x3 x4 x5 x6 x7 x8 x9 x10 x11 x12 x13 x14 x15 x16 x17 x18 x19 x20 (ix2 p 0)
    = gate (weights x4 x5 x6 x7 x8 x9 x10 x11 x12 x13 x14 x15 x16 x17 x18 x19 x20) (Cert.Geo.geo (near P σ)) (feat x3 p) := by
  have e := edge_layer x0 x1 x2 x3 x4 x5 x6 x7 x8 x9 x10 x11 x12 x13 x14 x15 x16 x17 x18 x19 x20 p q P σ H hσ
  unfold k0_pay68
  rw [View.ld_unit_zero (S := S32x16) zero2, View.ld_unit_zero (S := S1x16) zero2, View.ld_unit_zero (S := S512x64) zero2,
    View.ld_unit_zero (S := S16x64) zero2, View.ld_unit_zero (S := S1x64) zero2, View.ld_unit_zero (S := S1x64) zero2,
    View.ld_unit_zero (S := S1x64) zero2, View.ld_unit_zero (S := S1x64) zero2, View.ld_unit_zero (S := S1x1) zero2]
  rw [pay41_apply _ _ _ _ _ _ _ _ (pay39_apply _ _ _ _ _ _ _ _ _ _ _ _) (pay40_apply _ _ _ _ _ _ _ _ _ _ _ _)]
  simp only [e, pay37_apply, pay38_apply]
  rfl

/-- The second result's block. -/
theorem out22_apply : out0_22 x0 x1 x2 x3 x4 x5 x6 x7 x8 x9 x10 x11 x12 x13 x14 x15 x16 x17 x18 x19 x20 (ix3 0 p 0)
    = gate (weights x4 x5 x6 x7 x8 x9 x10 x11 x12 x13 x14 x15 x16 x17 x18 x19 x20) (Cert.Geo.geo (near P σ)) (feat x3 p) := by
  unfold out0_22
  rw [View.canon_unit_zero (S := S1x256x1) zero3, pay2_apply]
  exact gate_apply x0 x1 x2 x3 x4 x5 x6 x7 x8 x9 x10 x11 x12 x13 x14 x15 x16 x17 x18 x19 x20 p q P σ H hσ

/-- The first result's block. -/
theorem out21_apply (j : Fin 512) : out0_21 x0 x1 x2 x3 x4 x5 x6 x7 x8 x9 x10 x11 x12 x13 x14 x15 x16 x17 x18 x19 x20 (ix3 0 p j)
    = refined (weights x4 x5 x6 x7 x8 x9 x10 x11 x12 x13 x14 x15 x16 x17 x18 x19 x20) (Cert.Geo.geo (near P σ)) (feat x3 p) j := by
  unfold out0_21
  rw [View.canon_unit_zero (S := S1x256x512) zero3, View.ld_unit_zero (S := S512x512) zero2, View.ld_unit_zero (S := S1x512) zero2,
    View.ld_unit_zero (S := S1x512) zero2, View.ld_unit_zero (S := S1x512) zero2]
  rw [pay1_apply _ _ _ _ _ _ (fun p => pay45_apply _ _ _ p)]
  rw [gate_apply x0 x1 x2 x3 x4 x5 x6 x7 x8 x9 x10 x11 x12 x13 x14 x15 x16 x17 x18 x19 x20 p q P σ H hσ]
  simp only [pay42_apply, pay43_apply, pay44_apply, pay48_apply]
  rfl

end Block

end Cert.KernelIdeal.Rows
-- ==== Proof.KEntry.lean ====
/- The blocks the body reads at a grid point, as the argument arrays: the padded and transposed coordinates, the
   row tile of the features, and the weights. -/
module

public import proofs.«01_k».proof.Proof.Args
public import proofs.«01_k».proof.Proof.KBlock
public import Idealize.ShloMosaic.Lib.Pipeline.ValueKit.Point
public import Idealize.ShloMosaic.Lib.Pipeline.Value
public import Idealize.ShloMosaic.Lib.StableHlo.ReadAt

@[expose] public section

set_option maxRecDepth 16384

noncomputable section

namespace Cert.KernelIdeal.Entry

open Idealize.ShloMosaic Idealize.ShloMosaic.TcCoe Cert.KernelIdeal Cert.KernelIdeal.Gen Idealize.SL.Sem
open Cert.Geo Cert.KernelIdeal.Rows
open Idealize.ShloMosaic.Pipeline (Dat)

variable (m : (ℓ : Loc nD τ sig) → Buf (Elt Ideal) ℓ) (c : Dev nD)

/-- The padding value, the integer zero made a float. -/
theorem zero_pad : FloatOps.sitofp (F := Ideal) .f32 (0#32) = (0 : EReal) := by
  change ((((0#32 : BitVec 32).toInt : ℤ) : ℝ) : EReal) = 0
  simp

/-! ## The arrays as the region finds them -/

/-- A coordinate of a point, padded to eight with zeros. -/
def padPt (b : Fin 4) (n : Fin 2048) (i : Fin 8) : EReal :=
  if h : i.val < 3 then m ((c : Thread nD τ).loc main_arg0) (ix3 b n ⟨i.val, h⟩) else 0

theorem entry_v0 (b : Fin 4) (n : Fin 2048) (i : Fin 8) : V m c main_v0 (ix3 b n i)
    = padPt m c b n i := by
  simp only [V, hostOps0, hostOps0_1, hostOps0_2, hostOps0_3, hostOps0_4, List.flatten_cons, List.flatten_nil, List.append_nil,
    List.cons_append, List.nil_append]
  after_reads_at
  rw [zero_pad]
  rfl

theorem entry_v1 (b : Fin 4) (n : Fin 2048) (i : Fin 8) : V m c main_v1 (ix3 b i n)
    = padPt m c b n i := by
  simp only [V, hostOps0, hostOps0_1, hostOps0_2, hostOps0_3, hostOps0_4, List.flatten_cons, List.flatten_nil, List.append_nil,
    List.cons_append, List.nil_append]
  after_reads_at
  rw [zero_pad]
  rfl

theorem entry_v3_low (b : Fin 4) (n : Fin 2048) (i : Fin 16) (hi : i.val < 8) : V m c main_v3 (ix3 b n i)
    = padPt m c b n ⟨i.val, hi⟩ := by
  simp only [V, hostOps0, hostOps0_1, hostOps0_2, hostOps0_3, hostOps0_4, List.flatten_cons, List.flatten_nil, List.append_nil,
    List.cons_append, List.nil_append]
  after_reads_at
  simp only [zero_pad]
  exact dif_pos hi

theorem entry_v3_first (b : Fin 4) (n : Fin 2048) (i : Fin 8) : V m c main_v3 (ix3 b n (i.castLE (by norm_num)))
    = padPt m c b n i := entry_v3_low m c b n _ i.isLt

theorem entry_v3_second (b : Fin 4) (n : Fin 2048) (i : Fin 8) : V m c main_v3 (ix3 b n ⟨8 + i.val, by omega⟩)
    = padPt m c b n i * padPt m c b n i := by
  simp only [V, hostOps0, hostOps0_1, hostOps0_2, hostOps0_3, hostOps0_4, List.flatten_cons, List.flatten_nil, List.append_nil,
    List.cons_append, List.nil_append]
  after_reads_at
  rw [zero_pad]
  rfl

theorem entry_v4 (k : Fin 16) (j : Fin 32) : V m c main_v4 (ix2 k j)
    = if h : k.val < 10 then m ((c : Thread nD τ).loc main_arg2) (ix2 ⟨k.val, h⟩ j) else (0 : EReal) := by
  simp only [V, hostOps0, hostOps0_1, hostOps0_2, hostOps0_3, hostOps0_4, List.flatten_cons, List.flatten_nil, List.append_nil,
    List.cons_append, List.nil_append]
  after_reads_at
  rw [zero_pad]

theorem entry_v9 (j : Fin 32) : V m c main_v9 (ix2 0 j) = m ((c : Thread nD τ).loc main_arg3) (ix1 j) := by
  simp only [V, hostOps0, hostOps0_1, hostOps0_2, hostOps0_3, hostOps0_4, List.flatten_cons, List.flatten_nil, List.append_nil,
    List.cons_append, List.nil_append]
  after_reads_at

theorem entry_v10 (j : Fin 32) : V m c main_v10 (ix2 0 j) = m ((c : Thread nD τ).loc main_arg4) (ix1 j) := by
  simp only [V, hostOps0, hostOps0_1, hostOps0_2, hostOps0_3, hostOps0_4, List.flatten_cons, List.flatten_nil, List.append_nil,
    List.cons_append, List.nil_append]
  after_reads_at

theorem entry_v11 (j : Fin 32) : V m c main_v11 (ix2 0 j) = m ((c : Thread nD τ).loc main_arg5) (ix1 j) := by
  simp only [V, hostOps0, hostOps0_1, hostOps0_2, hostOps0_3, hostOps0_4, List.flatten_cons, List.flatten_nil, List.append_nil,
    List.cons_append, List.nil_append]
  after_reads_at

theorem entry_v12 (j : Fin 16) : V m c main_v12 (ix2 0 j) = m ((c : Thread nD τ).loc main_arg7) (ix1 j) := by
  simp only [V, hostOps0, hostOps0_1, hostOps0_2, hostOps0_3, hostOps0_4, List.flatten_cons, List.flatten_nil, List.append_nil,
    List.cons_append, List.nil_append]
  after_reads_at

theorem entry_v13 (j : Fin 64) : V m c main_v13 (ix2 0 j) = m ((c : Thread nD τ).loc main_arg9) (ix1 j) := by
  simp only [V, hostOps0, hostOps0_1, hostOps0_2, hostOps0_3, hostOps0_4, List.flatten_cons, List.flatten_nil, List.append_nil,
    List.cons_append, List.nil_append]
  after_reads_at

theorem entry_v14 (j : Fin 64) : V m c main_v14 (ix2 0 j) = m ((c : Thread nD τ).loc main_arg10) (ix1 j) := by
  simp only [V, hostOps0, hostOps0_1, hostOps0_2, hostOps0_3, hostOps0_4, List.flatten_cons, List.flatten_nil, List.append_nil,
    List.cons_append, List.nil_append]
  after_reads_at

theorem entry_v15 (j : Fin 64) : V m c main_v15 (ix2 0 j) = m ((c : Thread nD τ).loc main_arg11) (ix1 j) := by
  simp only [V, hostOps0, hostOps0_1, hostOps0_2, hostOps0_3, hostOps0_4, List.flatten_cons, List.flatten_nil, List.append_nil,
    List.cons_append, List.nil_append]
  after_reads_at

theorem entry_v16 (j : Fin 512) : V m c main_v16 (ix2 0 j) = m ((c : Thread nD τ).loc main_arg15) (ix1 j) := by
  simp only [V, hostOps0, hostOps0_1, hostOps0_2, hostOps0_3, hostOps0_4, List.flatten_cons, List.flatten_nil, List.append_nil,
    List.cons_append, List.nil_append]
  after_reads_at

theorem entry_v17 (j : Fin 512) : V m c main_v17 (ix2 0 j) = m ((c : Thread nD τ).loc main_arg16) (ix1 j) := by
  simp only [V, hostOps0, hostOps0_1, hostOps0_2, hostOps0_3, hostOps0_4, List.flatten_cons, List.flatten_nil, List.append_nil,
    List.cons_append, List.nil_append]
  after_reads_at

theorem entry_v18 (j : Fin 512) : V m c main_v18 (ix2 0 j) = m ((c : Thread nD τ).loc main_arg17) (ix1 j) := by
  simp only [V, hostOps0, hostOps0_1, hostOps0_2, hostOps0_3, hostOps0_4, List.flatten_cons, List.flatten_nil, List.append_nil,
    List.cons_append, List.nil_append]
  after_reads_at

theorem entry_v7 (j : Fin 64) : V m c main_v7 (ix2 0 j) = m ((c : Thread nD τ).loc main_arg12) (ix2 j 0) := by
  simp only [V, hostOps0, hostOps0_1, hostOps0_2, hostOps0_3, hostOps0_4, List.flatten_cons, List.flatten_nil, List.append_nil,
    List.cons_append, List.nil_append]
  after_reads_at

theorem entry_v8 : V m c main_v8 (ix2 0 0) = m ((c : Thread nD τ).loc main_arg13) (ix1 0) := by
  simp only [V, hostOps0, hostOps0_1, hostOps0_2, hostOps0_3, hostOps0_4, List.flatten_cons, List.flatten_nil, List.append_nil,
    List.cons_append, List.nil_append]
  after_reads_at

theorem entry_v5 (k : Fin 512) (j : Fin 64) : V m c main_v5 (ix2 k j) = m ((c : Thread nD τ).loc main_arg8) (ix2 ⟨k.val, by omega⟩ j) := by
  simp only [V, hostOps0, hostOps0_1, hostOps0_2, hostOps0_3, hostOps0_4, List.flatten_cons, List.flatten_nil, List.append_nil,
    List.cons_append, List.nil_append]
  after_reads_at

theorem entry_v6 (k : Fin 16) (j : Fin 64) : V m c main_v6 (ix2 k j) = m ((c : Thread nD τ).loc main_arg8) (ix2 ⟨512 + k.val, by omega⟩ j) := by
  simp only [V, hostOps0, hostOps0_1, hostOps0_2, hostOps0_3, hostOps0_4, List.flatten_cons, List.flatten_nil, List.append_nil,
    List.cons_append, List.nil_append]
  after_reads_at

/-! ## Where the windows' blocks lie -/

theorem point_lt (t : Fin cfg0.N) : t.val < 32 := t.isLt

theorem idx0 : ∀ t : Fin cfg0.N, win0_0.index t = ![t.val / 8, t.val % 8, 0] :=
  (by decide +kernel : ∀ t : Fin grid0.N, win0_0.index t = ![t.val / 8, t.val % 8, 0])

theorem idx1 : ∀ t : Fin cfg0.N, win0_1.index t = ![t.val / 8, 0, 0] :=
  (by decide +kernel : ∀ t : Fin grid0.N, win0_1.index t = ![t.val / 8, 0, 0])

theorem idx2 : ∀ t : Fin cfg0.N, win0_2.index t = ![t.val / 8, 0, 0] :=
  (by decide +kernel : ∀ t : Fin grid0.N, win0_2.index t = ![t.val / 8, 0, 0])

theorem idx3 : ∀ t : Fin cfg0.N, win0_3.index t = ![t.val / 8, t.val % 8, 0] :=
  (by decide +kernel : ∀ t : Fin grid0.N, win0_3.index t = ![t.val / 8, t.val % 8, 0])

theorem idx4 : ∀ t : Fin cfg0.N, win0_4.index t = ![0, 0] :=
  (by decide +kernel : ∀ t : Fin grid0.N, win0_4.index t = ![0, 0])

theorem idx5 : ∀ t : Fin cfg0.N, win0_5.index t = ![0, 0] :=
  (by decide +kernel : ∀ t : Fin grid0.N, win0_5.index t = ![0, 0])

theorem idx6 : ∀ t : Fin cfg0.N, win0_6.index t = ![0, 0] :=
  (by decide +kernel : ∀ t : Fin grid0.N, win0_6.index t = ![0, 0])

theorem idx7 : ∀ t : Fin cfg0.N, win0_7.index t = ![0, 0] :=
  (by decide +kernel : ∀ t : Fin grid0.N, win0_7.index t = ![0, 0])

theorem idx8 : ∀ t : Fin cfg0.N, win0_8.index t = ![0, 0] :=
  (by decide +kernel : ∀ t : Fin grid0.N, win0_8.index t = ![0, 0])

theorem idx9 : ∀ t : Fin cfg0.N, win0_9.index t = ![0, 0] :=
  (by decide +kernel : ∀ t : Fin grid0.N, win0_9.index t = ![0, 0])

theorem idx10 : ∀ t : Fin cfg0.N, win0_10.index t = ![0, 0] :=
  (by decide +kernel : ∀ t : Fin grid0.N, win0_10.index t = ![0, 0])

theorem idx11 : ∀ t : Fin cfg0.N, win0_11.index t = ![0, 0] :=
  (by decide +kernel : ∀ t : Fin grid0.N, win0_11.index t = ![0, 0])

theorem idx12 : ∀ t : Fin cfg0.N, win0_12.index t = ![0, 0] :=
  (by decide +kernel : ∀ t : Fin grid0.N, win0_12.index t = ![0, 0])

theorem idx13 : ∀ t : Fin cfg0.N, win0_13.index t = ![0, 0] :=
  (by decide +kernel : ∀ t : Fin grid0.N, win0_13.index t = ![0, 0])

theorem idx14 : ∀ t : Fin cfg0.N, win0_14.index t = ![0, 0] :=
  (by decide +kernel : ∀ t : Fin grid0.N, win0_14.index t = ![0, 0])

theorem idx15 : ∀ t : Fin cfg0.N, win0_15.index t = ![0, 0] :=
  (by decide +kernel : ∀ t : Fin grid0.N, win0_15.index t = ![0, 0])

theorem idx16 : ∀ t : Fin cfg0.N, win0_16.index t = ![0, 0] :=
  (by decide +kernel : ∀ t : Fin grid0.N, win0_16.index t = ![0, 0])

theorem idx17 : ∀ t : Fin cfg0.N, win0_17.index t = ![0, 0] :=
  (by decide +kernel : ∀ t : Fin grid0.N, win0_17.index t = ![0, 0])

theorem idx18 : ∀ t : Fin cfg0.N, win0_18.index t = ![0, 0] :=
  (by decide +kernel : ∀ t : Fin grid0.N, win0_18.index t = ![0, 0])

theorem idx19 : ∀ t : Fin cfg0.N, win0_19.index t = ![0, 0] :=
  (by decide +kernel : ∀ t : Fin grid0.N, win0_19.index t = ![0, 0])

theorem idx20 : ∀ t : Fin cfg0.N, win0_20.index t = ![0, 0] :=
  (by decide +kernel : ∀ t : Fin grid0.N, win0_20.index t = ![0, 0])

theorem idx21 : ∀ t : Fin cfg0.N, win0_21.index t = ![t.val / 8, t.val % 8, 0] :=
  (by decide +kernel : ∀ t : Fin grid0.N, win0_21.index t = ![t.val / 8, t.val % 8, 0])

theorem idx22 : ∀ t : Fin cfg0.N, win0_22.index t = ![t.val / 8, t.val % 8, 0] :=
  (by decide +kernel : ∀ t : Fin grid0.N, win0_22.index t = ![t.val / 8, t.val % 8, 0])

/-! ## The blocks -/

/-- The batch of a grid point. -/
abbrev batch (t : Fin cfg0.N) : Fin 4 := ⟨t.val / 8, by have := point_lt t; omega⟩

/-- The point a row of a grid point's block is. -/
abbrev place (t : Fin cfg0.N) (p : Fin 256) : Fin 2048 := ⟨t.val % 8 * 256 + p.val, by omega⟩

theorem blk0 (t : Fin cfg0.N) (p : Fin 256) (i : Fin 8) :
    iblk m c 0 t (ix3 0 p i) = V m c main_v0 (ix3 (batch t) (place t p) i) := by
  blk_ext! [iblk, idx0 t]

theorem blk1 (t : Fin cfg0.N) (i : Fin 8) (j : Fin 2048) :
    iblk m c 1 t (ix3 0 i j) = V m c main_v1 (ix3 (batch t) i j) := by
  blk_ext! [iblk, idx1 t]

theorem blk2 (t : Fin cfg0.N) (j : Fin 2048) (i : Fin 16) :
    iblk m c 2 t (ix3 0 j i) = V m c main_v3 (ix3 (batch t) j i) := by
  blk_ext! [iblk, idx2 t]

theorem blk3 (t : Fin cfg0.N) (p : Fin 256) (k : Fin 512) :
    iblk m c 3 t (ix3 0 p k) = m ((c : Thread nD τ).loc main_arg1) (ix3 (batch t) (place t p) k) := by
  rw [← V_main_arg1 m c]
  blk_ext! [iblk, idx3 t]

theorem blk4 (t : Fin cfg0.N) (k : Fin 16) (j : Fin 32) : iblk m c 4 t (ix2 k j) = V m c main_v4 (ix2 k j) := by
  blk_ext! [iblk, idx4 t]

theorem blk5 (t : Fin cfg0.N) (k : Fin 1) (j : Fin 32) : iblk m c 5 t (ix2 k j) = V m c main_v9 (ix2 k j) := by
  blk_ext! [iblk, idx5 t]

theorem blk6 (t : Fin cfg0.N) (k : Fin 1) (j : Fin 32) : iblk m c 6 t (ix2 k j) = V m c main_v10 (ix2 k j) := by
  blk_ext! [iblk, idx6 t]

theorem blk7 (t : Fin cfg0.N) (k : Fin 1) (j : Fin 32) : iblk m c 7 t (ix2 k j) = V m c main_v11 (ix2 k j) := by
  blk_ext! [iblk, idx7 t]

theorem blk8 (t : Fin cfg0.N) (k : Fin 32) (j : Fin 16) : iblk m c 8 t (ix2 k j) = V m c main_arg6 (ix2 k j) := by
  blk_ext! [iblk, idx8 t]

theorem blk9 (t : Fin cfg0.N) (k : Fin 1) (j : Fin 16) : iblk m c 9 t (ix2 k j) = V m c main_v12 (ix2 k j) := by
  blk_ext! [iblk, idx9 t]

theorem blk10 (t : Fin cfg0.N) (k : Fin 512) (j : Fin 64) : iblk m c 10 t (ix2 k j) = V m c main_v5 (ix2 k j) := by
  blk_ext! [iblk, idx10 t]

theorem blk11 (t : Fin cfg0.N) (k : Fin 16) (j : Fin 64) : iblk m c 11 t (ix2 k j) = V m c main_v6 (ix2 k j) := by
  blk_ext! [iblk, idx11 t]

theorem blk12 (t : Fin cfg0.N) (k : Fin 1) (j : Fin 64) : iblk m c 12 t (ix2 k j) = V m c main_v13 (ix2 k j) := by
  blk_ext! [iblk, idx12 t]

theorem blk13 (t : Fin cfg0.N) (k : Fin 1) (j : Fin 64) : iblk m c 13 t (ix2 k j) = V m c main_v14 (ix2 k j) := by
  blk_ext! [iblk, idx13 t]

theorem blk14 (t : Fin cfg0.N) (k : Fin 1) (j : Fin 64) : iblk m c 14 t (ix2 k j) = V m c main_v15 (ix2 k j) := by
  blk_ext! [iblk, idx14 t]

theorem blk15 (t : Fin cfg0.N) (k : Fin 1) (j : Fin 64) : iblk m c 15 t (ix2 k j) = V m c main_v7 (ix2 k j) := by
  blk_ext! [iblk, idx15 t]

theorem blk16 (t : Fin cfg0.N) (k : Fin 1) (j : Fin 1) : iblk m c 16 t (ix2 k j) = V m c main_v8 (ix2 k j) := by
  blk_ext! [iblk, idx16 t]

theorem blk17 (t : Fin cfg0.N) (k : Fin 512) (j : Fin 512) : iblk m c 17 t (ix2 k j) = V m c main_arg14 (ix2 k j) := by
  blk_ext! [iblk, idx17 t]

theorem blk18 (t : Fin cfg0.N) (k : Fin 1) (j : Fin 512) : iblk m c 18 t (ix2 k j) = V m c main_v16 (ix2 k j) := by
  blk_ext! [iblk, idx18 t]

theorem blk19 (t : Fin cfg0.N) (k : Fin 1) (j : Fin 512) : iblk m c 19 t (ix2 k j) = V m c main_v17 (ix2 k j) := by
  blk_ext! [iblk, idx19 t]

theorem blk20 (t : Fin cfg0.N) (k : Fin 1) (j : Fin 512) : iblk m c 20 t (ix2 k j) = V m c main_v18 (ix2 k j) := by
  blk_ext! [iblk, idx20 t]

end Cert.KernelIdeal.Entry
-- ==== Proof.KHolds.lean ====
/- What the body's theorems ask of the blocks: they hold the padded query and points, and the staged weights are the
   argument arrays'. -/
module

public import proofs.«01_k».proof.Proof.KEntry

@[expose] public section

set_option maxRecDepth 16384

noncomputable section

namespace Cert.KernelIdeal.Entry

open Idealize.ShloMosaic Idealize.ShloMosaic.TcCoe Cert.KernelIdeal Cert.KernelIdeal.Gen Idealize.SL.Sem
open Cert.Geo Cert.KernelIdeal.Rows
open Idealize.ShloMosaic.Pipeline (Dat)

variable (m : (ℓ : Loc nD τ sig) → Buf (Elt Ideal) ℓ) (c : Dev nD)

/-- The weights of the launch. -/
def launched : Weights := argWeights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

theorem gw1_eq (t : Fin cfg0.N) (k : Fin 10) (j : Fin 32) : iblk m c 4 t (ix2 (k.castLE (by norm_num)) j) = (launched m c).gw1 k j :=
  (blk4 m c t _ j).trans ((entry_v4 m c _ j).trans (dif_pos k.isLt))

theorem gb1_eq (t : Fin cfg0.N) (j : Fin 32) : iblk m c 5 t (ix2 0 j) = (launched m c).gb1 j :=
  (blk5 m c t 0 j).trans (entry_v9 m c j)

theorem gg_eq (t : Fin cfg0.N) (j : Fin 32) : iblk m c 6 t (ix2 0 j) = (launched m c).gg j :=
  (blk6 m c t 0 j).trans (entry_v10 m c j)

theorem gb_eq (t : Fin cfg0.N) (j : Fin 32) : iblk m c 7 t (ix2 0 j) = (launched m c).gb j :=
  (blk7 m c t 0 j).trans (entry_v11 m c j)

theorem gw2_eq (t : Fin cfg0.N) (k : Fin 32) (j : Fin 16) : iblk m c 8 t (ix2 k j) = (launched m c).gw2 k j :=
  (blk8 m c t k j).trans (congrFun (V_main_arg6 m c) _)

theorem gb2_eq (t : Fin cfg0.N) (j : Fin 16) : iblk m c 9 t (ix2 0 j) = (launched m c).gb2 j :=
  (blk9 m c t 0 j).trans (entry_v12 m c j)

theorem ewf_eq (t : Fin cfg0.N) (k : Fin 512) (j : Fin 64) : iblk m c 10 t (ix2 k j) = (launched m c).ewf k j :=
  (blk10 m c t k j).trans (entry_v5 m c k j)

theorem ewg_eq (t : Fin cfg0.N) (k : Fin 16) (j : Fin 64) : iblk m c 11 t (ix2 k j) = (launched m c).ewg k j :=
  (blk11 m c t k j).trans (entry_v6 m c k j)

theorem eb1_eq (t : Fin cfg0.N) (j : Fin 64) : iblk m c 12 t (ix2 0 j) = (launched m c).eb1 j :=
  (blk12 m c t 0 j).trans (entry_v13 m c j)

theorem eg_eq (t : Fin cfg0.N) (j : Fin 64) : iblk m c 13 t (ix2 0 j) = (launched m c).eg j :=
  (blk13 m c t 0 j).trans (entry_v14 m c j)

theorem eb_eq (t : Fin cfg0.N) (j : Fin 64) : iblk m c 14 t (ix2 0 j) = (launched m c).eb j :=
  (blk14 m c t 0 j).trans (entry_v15 m c j)

theorem ew2_eq (t : Fin cfg0.N) (j : Fin 64) : iblk m c 15 t (ix2 0 j) = (launched m c).ew2 j :=
  (blk15 m c t 0 j).trans (entry_v7 m c j)

theorem eb2_eq (t : Fin cfg0.N)  : iblk m c 16 t (ix2 0 0) = (launched m c).eb2  :=
  (blk16 m c t 0 0).trans (entry_v8 m c)

theorem rw_eq (t : Fin cfg0.N) (k : Fin 512) (j : Fin 512) : iblk m c 17 t (ix2 k j) = (launched m c).rw k j :=
  (blk17 m c t k j).trans (congrFun (V_main_arg14 m c) _)

theorem rb_eq (t : Fin cfg0.N) (j : Fin 512) : iblk m c 18 t (ix2 0 j) = (launched m c).rb j :=
  (blk18 m c t 0 j).trans (entry_v16 m c j)

theorem rg_eq (t : Fin cfg0.N) (j : Fin 512) : iblk m c 19 t (ix2 0 j) = (launched m c).rg j :=
  (blk19 m c t 0 j).trans (entry_v17 m c j)

theorem rbt_eq (t : Fin cfg0.N) (j : Fin 512) : iblk m c 20 t (ix2 0 j) = (launched m c).rbt j :=
  (blk20 m c t 0 j).trans (entry_v18 m c j)

set_option maxHeartbeats 1000000 in
/-- The staged weights are the arguments'. -/
theorem weights_eq (t : Fin cfg0.N) :
    weights (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) = launched m c := by
  refine Weights.ext ?_ ?_ ?_ ?_ ?_ ?_ ?_ ?_ ?_ ?_ ?_ ?_ ?_ ?_ ?_ ?_ ?_ <;> dsimp only [weights, mat, vec]
  · funext k j
    exact gw1_eq m c t k j
  · funext j
    exact gb1_eq m c t j
  · funext j
    exact gg_eq m c t j
  · funext j
    exact gb_eq m c t j
  · funext k j
    exact gw2_eq m c t k j
  · funext j
    exact gb2_eq m c t j
  · funext k j
    exact ewf_eq m c t k j
  · funext k j
    exact ewg_eq m c t k j
  · funext j
    exact eb1_eq m c t j
  · funext j
    exact eg_eq m c t j
  · funext j
    exact eb_eq m c t j
  · funext j
    exact ew2_eq m c t j
  · exact eb2_eq m c t
  · funext k j
    exact rw_eq m c t k j
  · funext j
    exact rb_eq m c t j
  · funext j
    exact rg_eq m c t j
  · funext j
    exact rbt_eq m c t j

variable {σ : Fin 4 → Fin 2048 → Fin 2048 → Fin 2048} (H : NoTie (m ((c : Thread nD τ).loc main_arg0)) σ)
include H

theorem padded (b : Fin 4) (n : Fin 2048) (i : Fin 8) :
    (padPt m c b n i)
      = (pad8 (point (m ((c : Thread nD τ).loc main_arg0)) b n) i : EReal) := by
  unfold padPt pad8
  split
  · exact H.finite _ _ _
  · rfl

/-- The blocks hold the query and the points of the batch. -/
theorem holds (t : Fin cfg0.N) (p : Fin 256) : Holds (iblk m c 0 t) (iblk m c 1 t) (iblk m c 2 t) p
    (point (m ((c : Thread nD τ).loc main_arg0)) (batch t) (place t p)) (point (m ((c : Thread nD τ).loc main_arg0)) (batch t)) where
  query i := ((blk0 m c t p i).trans (entry_v0 m c _ _ i)).trans (padded m c H _ _ i)
  points i j := ((blk1 m c t i j).trans (entry_v1 m c _ _ i)).trans (padded m c H _ _ i)
  first j i := ((blk2 m c t j _).trans (entry_v3_first m c _ _ i)).trans (padded m c H _ _ i)
  second j i := ((blk2 m c t j _).trans (entry_v3_second m c _ _ i)).trans (by rw [padded m c H, ← EReal.coe_mul])

end Cert.KernelIdeal.Entry
-- ==== Proof.KArray.lean ====
/- What the launch leaves: the two result arrays after the last grid point, as functions of the argument arrays. -/
module

public import proofs.«01_k».proof.Proof.KHolds

@[expose] public section

set_option maxRecDepth 16384

noncomputable section

namespace Cert.KernelIdeal.Entry

open Idealize.ShloMosaic Idealize.ShloMosaic.TcCoe Cert.KernelIdeal Cert.KernelIdeal.Gen Idealize.SL.Sem
open Cert.Geo Cert.KernelIdeal.Rows
open Idealize.ShloMosaic.Pipeline (Dat)

variable (m : (ℓ : Loc nD τ sig) → Buf (Elt Ideal) ℓ) (c : Dev nD)

/-- The refined features the launch leaves. -/
def refinedArr (σ : Fin 4 → Fin 2048 → Fin 2048 → Fin 2048) : S4x2048x512.Idx → EReal := fun i =>
  refinedAt (launched m c) (m ((c : Thread nD τ).loc main_arg0)) (m ((c : Thread nD τ).loc main_arg1)) σ (i 0) (i 1) (i 2)

/-- The gates the launch leaves. -/
def gateArr (σ : Fin 4 → Fin 2048 → Fin 2048 → Fin 2048) : S4x2048x1.Idx → EReal := fun i =>
  gateAt (launched m c) (m ((c : Thread nD τ).loc main_arg0)) (m ((c : Thread nD τ).loc main_arg1)) σ (i 0) (i 1)

variable {σ : Fin 4 → Fin 2048 → Fin 2048 → Fin 2048}

theorem emb21 (t : Fin cfg0.N) (p : Fin 256) (j : Fin 512) :
    (win0_21.blk t).view.emb (ix3 0 p j) = ix3 (batch t) (place t p) j := by
  funext a
  apply Fin.ext
  fin_cases a <;> (blk_simp [idx21 t] <;> rfl)

/-- The block a grid point writes. -/
theorem out21_at (H : NoTie (m ((c : Thread nD τ).loc main_arg0)) σ) (t : Fin cfg0.N) (y : S1x256x512.Idx) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = refinedArr m c σ ((win0_21.blk t).view.emb y) := by
  obtain ⟨p, j, rfl⟩ : ∃ p j, y = ix3 0 p j := ⟨y 1, y 2, funext fun a => match a with
    | ⟨0, _⟩ => Subsingleton.elim (α := Fin 1) _ _
    | ⟨1, _⟩ => rfl
    | ⟨2, _⟩ => rfl⟩
  have hf : feat (iblk m c 3 t) p = fun k => m ((c : Thread nD τ).loc main_arg1) (ix3 (batch t) (place t p) k) :=
    funext fun k => blk3 m c t p k
  have e := out21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p _ _ _ (holds m c H t p) (H.sorted _ _) j
  rw [weights_eq m c t, hf] at e
  exact e.trans (congrArg (refinedArr m c σ) (emb21 t p j)).symm

/-- The array after the last grid point. -/
theorem arr21 (H : NoTie (m ((c : Thread nD τ).loc main_arg0)) σ) : (dats m 0 c).arrAt 21 (cfgs 0).N = refinedArr m c σ := by
  refine (dats m 0 c).arrAt_eq_of_covers 21 _ (by decide +kernel) fun t hf y => ?_
  blk_simp
  rw [after0_21]
  exact out21_at m c H t y

theorem emb22 (t : Fin cfg0.N) (p : Fin 256) (j : Fin 1) :
    (win0_22.blk t).view.emb (ix3 0 p j) = ix3 (batch t) (place t p) j := by
  funext a
  apply Fin.ext
  fin_cases a <;> (blk_simp [idx22 t] <;> rfl)

/-- The block a grid point writes. -/
theorem out22_at (H : NoTie (m ((c : Thread nD τ).loc main_arg0)) σ) (t : Fin cfg0.N) (y : S1x256x1.Idx) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = gateArr m c σ ((win0_22.blk t).view.emb y) := by
  obtain ⟨p, rfl⟩ : ∃ p, y = ix3 0 p 0 := ⟨y 1, funext fun a => match a with
    | ⟨0, _⟩ => Subsingleton.elim (α := Fin 1) _ _
    | ⟨1, _⟩ => rfl
    | ⟨2, _⟩ => Subsingleton.elim (α := Fin 1) _ _⟩
  have hf : feat (iblk m c 3 t) p = fun k => m ((c : Thread nD τ).loc main_arg1) (ix3 (batch t) (place t p) k) :=
    funext fun k => blk3 m c t p k
  have e := out22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p _ _ _ (holds m c H t p) (H.sorted _ _)
  rw [weights_eq m c t, hf] at e
  exact e.trans (congrArg (gateArr m c σ) (emb22 t p 0)).symm

/-- The array after the last grid point. -/
theorem arr22 (H : NoTie (m ((c : Thread nD τ).loc main_arg0)) σ) : (dats m 0 c).arrAt 22 (cfgs 0).N = gateArr m c σ := by
  refine (dats m 0 c).arrAt_eq_of_covers 22 _ (by decide +kernel) fun t hf y => ?_
  blk_simp
  rw [after0_22]
  exact out22_at m c H t y

end Cert.KernelIdeal.Entry
-- ==== Proof.KRun.lean ====
/- The idealized kernel's run: what the two result arrays hold at the end. -/
module

public import proofs.«01_k».proof.Proof.KArray

@[expose] public section

set_option maxRecDepth 16384

noncomputable section

namespace Cert.KernelIdeal.Entry

open Idealize.ShloMosaic Idealize.ShloMosaic.TcCoe Cert.KernelIdeal Cert.KernelIdeal.Gen Idealize.SL.Sem
open Cert.Geo
open Idealize.ShloMosaic.Pipeline (Dat)

/-- Every execution from memories without ties ends with the refined features and the gates in the result arrays. -/
theorem run_results (m : (ℓ : Loc nD τ sig) → Buf (Elt Ideal) ℓ) (ρ : Dev nD → PrngReg) (σ : Dev nD → Fin 4 → Fin 2048 → Fin 2048 → Fin 2048)
    (H : ∀ c : Dev nD, NoTie (m ((c : Thread nD τ).loc main_arg0)) (σ c)) :
    θ_run (defs (F := Ideal)) (onTc (τ := τ) (main (F := Ideal))) ⟨m, fun _ => 0, ρ⟩ fun r => ∀ c : Dev nD,
      r.2.mem ((c.tc : Thread nD τ).loc main_v19_0) = refinedArr m c (σ c)
      ∧ r.2.mem ((c.tc : Thread nD τ).loc main_v19_1) = gateArr m c (σ c) :=
  (θ_run defs _ _).mono (fun r h c => ⟨(h.out_eq c 21).trans (arr21 m c (H c)), (h.out_eq c 22).trans (arr22 m c (H c))⟩)
    (run_main (F := Ideal) m ρ)

end Cert.KernelIdeal.Entry
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_tie
public import proofs.«01_k».proof.Proof.PreFacts
public import proofs.«01_k».proof.Proof.RValue
public import proofs.«01_k».proof.Proof.KRun
public import Idealize.ShloMosaic.Adequacy
public import Idealize.ShloMosaic.Init

@[expose] public section

set_option maxRecDepth 16384

noncomputable section

namespace Cert.Proof

open Idealize.ShloMosaic Idealize.SL.Sem Cert.Geo

/-- The reference's run keeps its arguments, and a program without semaphores ends with every counter at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's refined features, read where the arguments are known. -/
theorem refined_of (V : Valuation Cert.ReferenceIdeal.τ Cert.ReferenceIdeal.sig (Elt Ideal)) (x0 : Vec Ideal Cert.ReferenceIdeal.S4x2048x3 .f32) (x1 : Vec Ideal Cert.ReferenceIdeal.S4x2048x512 .f32) (x2 : Vec Ideal Cert.ReferenceIdeal.S10x32 .f32) (x3 : Vec Ideal Cert.ReferenceIdeal.S32 .f32) (x4 : Vec Ideal Cert.ReferenceIdeal.S32 .f32) (x5 : Vec Ideal Cert.ReferenceIdeal.S32 .f32) (x6 : Vec Ideal Cert.ReferenceIdeal.S32x16 .f32) (x7 : Vec Ideal Cert.ReferenceIdeal.S16 .f32) (x8 : Vec Ideal Cert.ReferenceIdeal.S528x64 .f32) (x9 : Vec Ideal Cert.ReferenceIdeal.S64 .f32) (x10 : Vec Ideal Cert.ReferenceIdeal.S64 .f32) (x11 : Vec Ideal Cert.ReferenceIdeal.S64 .f32) (x12 : Vec Ideal Cert.ReferenceIdeal.S64x1 .f32) (x13 : Vec Ideal Cert.ReferenceIdeal.S1 .f32) (x14 : Vec Ideal Cert.ReferenceIdeal.S512x512 .f32) (x15 : Vec Ideal Cert.ReferenceIdeal.S512 .f32) (x16 : Vec Ideal Cert.ReferenceIdeal.S512 .f32) (x17 : Vec Ideal Cert.ReferenceIdeal.S512 .f32)
    (e0 : V (Proc.devRef .tc Cert.ReferenceIdeal.main_arg0) = x0) (e1 : V (Proc.devRef .tc Cert.ReferenceIdeal.main_arg1) = x1) (e2 : V (Proc.devRef .tc Cert.ReferenceIdeal.main_arg2) = x2) (e3 : V (Proc.devRef .tc Cert.ReferenceIdeal.main_arg3) = x3) (e4 : V (Proc.devRef .tc Cert.ReferenceIdeal.main_arg4) = x4) (e5 : V (Proc.devRef .tc Cert.ReferenceIdeal.main_arg5) = x5) (e6 : V (Proc.devRef .tc Cert.ReferenceIdeal.main_arg6) = x6) (e7 : V (Proc.devRef .tc Cert.ReferenceIdeal.main_arg7) = x7) (e8 : V (Proc.devRef .tc Cert.ReferenceIdeal.main_arg8) = x8) (e9 : V (Proc.devRef .tc Cert.ReferenceIdeal.main_arg9) = x9) (e10 : V (Proc.devRef .tc Cert.ReferenceIdeal.main_arg10) = x10) (e11 : V (Proc.devRef .tc Cert.ReferenceIdeal.main_arg11) = x11) (e12 : V (Proc.devRef .tc Cert.ReferenceIdeal.main_arg12) = x12) (e13 : V (Proc.devRef .tc Cert.ReferenceIdeal.main_arg13) = x13) (e14 : V (Proc.devRef .tc Cert.ReferenceIdeal.main_arg14) = x14) (e15 : V (Proc.devRef .tc Cert.ReferenceIdeal.main_arg15) = x15) (e16 : V (Proc.devRef .tc Cert.ReferenceIdeal.main_arg16) = x16) (e17 : V (Proc.devRef .tc Cert.ReferenceIdeal.main_arg17) = x17) :
    Cert.ReferenceIdeal.Read.val_main_v241 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17))
      = Cert.ReferenceIdeal.Read.val_main_v241 (F := Ideal) x0 x1 x2 x3 x4 x5 x6 x7 x8 x9 x10 x11 x12 x13 x14 x15 x16 x17 := by
  rw [e0, e1, e2, e3, e4, e5, e6, e7, e8, e9, e10, e11, e12, e13, e14, e15, e16, e17]

/-- The reference's gates, read where the arguments are known. -/
theorem gate_of (V : Valuation Cert.ReferenceIdeal.τ Cert.ReferenceIdeal.sig (Elt Ideal)) (x0 : Vec Ideal Cert.ReferenceIdeal.S4x2048x3 .f32) (x1 : Vec Ideal Cert.ReferenceIdeal.S4x2048x512 .f32) (x2 : Vec Ideal Cert.ReferenceIdeal.S10x32 .f32) (x3 : Vec Ideal Cert.ReferenceIdeal.S32 .f32) (x4 : Vec Ideal Cert.ReferenceIdeal.S32 .f32) (x5 : Vec Ideal Cert.ReferenceIdeal.S32 .f32) (x6 : Vec Ideal Cert.ReferenceIdeal.S32x16 .f32) (x7 : Vec Ideal Cert.ReferenceIdeal.S16 .f32) (x8 : Vec Ideal Cert.ReferenceIdeal.S528x64 .f32) (x9 : Vec Ideal Cert.ReferenceIdeal.S64 .f32) (x10 : Vec Ideal Cert.ReferenceIdeal.S64 .f32) (x11 : Vec Ideal Cert.ReferenceIdeal.S64 .f32) (x12 : Vec Ideal Cert.ReferenceIdeal.S64x1 .f32) (x13 : Vec Ideal Cert.ReferenceIdeal.S1 .f32)
    (e0 : V (Proc.devRef .tc Cert.ReferenceIdeal.main_arg0) = x0) (e1 : V (Proc.devRef .tc Cert.ReferenceIdeal.main_arg1) = x1) (e2 : V (Proc.devRef .tc Cert.ReferenceIdeal.main_arg2) = x2) (e3 : V (Proc.devRef .tc Cert.ReferenceIdeal.main_arg3) = x3) (e4 : V (Proc.devRef .tc Cert.ReferenceIdeal.main_arg4) = x4) (e5 : V (Proc.devRef .tc Cert.ReferenceIdeal.main_arg5) = x5) (e6 : V (Proc.devRef .tc Cert.ReferenceIdeal.main_arg6) = x6) (e7 : V (Proc.devRef .tc Cert.ReferenceIdeal.main_arg7) = x7) (e8 : V (Proc.devRef .tc Cert.ReferenceIdeal.main_arg8) = x8) (e9 : V (Proc.devRef .tc Cert.ReferenceIdeal.main_arg9) = x9) (e10 : V (Proc.devRef .tc Cert.ReferenceIdeal.main_arg10) = x10) (e11 : V (Proc.devRef .tc Cert.ReferenceIdeal.main_arg11) = x11) (e12 : V (Proc.devRef .tc Cert.ReferenceIdeal.main_arg12) = x12) (e13 : V (Proc.devRef .tc Cert.ReferenceIdeal.main_arg13) = x13) :
    Cert.ReferenceIdeal.Read.val_main_v208 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13))
      = Cert.ReferenceIdeal.Read.val_main_v208 (F := Ideal) x0 x1 x2 x3 x4 x5 x6 x7 x8 x9 x10 x11 x12 x13 := by
  rw [e0, e1, e2, e3, e4, e5, e6, e7, e8, e9, e10, e11, e12, e13]

section Algebraic

variable (m : (ℓ : Loc Cert.KernelIdeal.nD Cert.KernelIdeal.τ Cert.KernelIdeal.sig) → Buf (Elt Ideal) ℓ)

/-- On each device, the points of a cloud in the order of their scores. -/
def near16 (c : Dev Cert.KernelIdeal.nD) : Fin 4 → Fin 2048 → Fin 2048 → Fin 2048 :=
  arrange (m ((c.tc : Thread Cert.KernelIdeal.nD Cert.KernelIdeal.τ).loc Cert.KernelIdeal.main_arg0))

/-- The reference's refined features over the kernel's arguments are what the kernel's launch leaves. -/
theorem refined_agree (c : Dev Cert.KernelIdeal.nD) (H : NoTie (m ((c.tc : Thread Cert.KernelIdeal.nD Cert.KernelIdeal.τ).loc Cert.KernelIdeal.main_arg0)) (near16 m c)) :
    Cert.ReferenceIdeal.Read.val_main_v241 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      = Cert.KernelIdeal.Entry.refinedArr m c (near16 m c) :=
  Cert.ReferenceIdeal.Rows.refined_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) H

/-- And its gates are the launch's gates. -/
theorem gate_agree (c : Dev Cert.KernelIdeal.nD) (H : NoTie (m ((c.tc : Thread Cert.KernelIdeal.nD Cert.KernelIdeal.τ).loc Cert.KernelIdeal.main_arg0)) (near16 m c)) :
    Cert.ReferenceIdeal.Read.val_main_v208 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Entry.gateArr m c (near16 m c) :=
  Cert.ReferenceIdeal.Rows.gate_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) H

end Algebraic

/-- From memories that agree on the arguments, and whose coordinates tie nowhere among the first seventeen neighbours, the
    idealized kernel and the reference end with the same refined features and the same gates. -/
theorem algebraic : Cert.algebraic_KernelIdeal_ReferenceIdeal_pre_no_tie (hKernelIdeal := Cert.KernelIdeal.Gen.facts)
    (hReferenceIdeal := Cert.ReferenceIdeal.Gen.facts) (hPre_no_tie := Cert.Pre_no_tie.Gen.facts) := fun m g m' g' hp ha => by
  have H : ∀ c : Dev Cert.KernelIdeal.nD, NoTie (m ((c.tc : Thread Cert.KernelIdeal.nD Cert.KernelIdeal.τ).loc Cert.KernelIdeal.main_arg0)) (near16 m c) := Cert.Pre_no_tie.Rows.noTie m hp
  refine ⟨fun c => Cert.KernelIdeal.Entry.refinedArr m c (near16 m c), fun c => Cert.KernelIdeal.Entry.gateArr m c (near16 m c), ?_, ?_⟩
  · exact (θ_run Cert.KernelIdeal.defs _ _).mono (fun r h c => ⟨(h.1 c).1, (h.1 c).2, h.2 c⟩)
      (θ_run_and (Cert.KernelIdeal.Entry.run_results m g (near16 m) H) (Cert.KernelIdeal.Gen.unchanged (F := Ideal) m g))
  · refine (θ_run Cert.ReferenceIdeal.defs _ _).mono (fun r h c => ?_) (Cert.ReferenceIdeal.Value.run (F := Ideal) m' g')
    obtain ⟨e0, e1, e2, e3, e4, e5, e6, e7, e8, e9, e10, e11, e12, e13, e14, e15, e16, e17⟩ := ha c
    obtain ⟨h0, h1, h2⟩ := h c
    have f0 := refined_of (StableHlo.launchContents m' c) _ _ _ _ _ _ _ _ _ _ _ _ _ _ _ _ _ _ e0 e1 e2 e3 e4 e5 e6 e7 e8 e9 e10 e11 e12 e13 e14 e15 e16 e17
    have f1 := gate_of (StableHlo.launchContents m' c) _ _ _ _ _ _ _ _ _ _ _ _ _ _ e0 e1 e2 e3 e4 e5 e6 e7 e8 e9 e10 e11 e12 e13
    exact ⟨h0.trans ((Cert.ReferenceIdeal.Read.val_main_v241_eq (F := Ideal) (StableHlo.launchContents m' c)).trans (f0.trans (refined_agree m c (H c)))),
      h1.trans ((Cert.ReferenceIdeal.Read.val_main_v208_eq (F := Ideal) (StableHlo.launchContents m' c)).trans (f1.trans (gate_agree m c (H c)))), h2⟩

/-- The frames of the three programs, the one named constant of the idealized kernel, and the agreement of its two results
    with the reference's. -/
theorem claim : Cert.Claim := ⟨Cert.Kernel.Gen.facts, Cert.KernelIdeal.Gen.facts, Cert.ReferenceIdeal.Gen.facts, Cert.Pre_no_tie.Gen.facts,
  fun m ρ _ => Cert.Kernel.Gen.frame m ρ, fun m ρ _ => Cert.KernelIdeal.Gen.frame m ρ,
  fun m ρ _ => Cert.KernelIdeal.Gen.frame m ρ, frame_ref, fun m ρ _ => frame_ref m ρ trivial,
  IdealRules.named_const.statement Cert.KernelIdeal.κ "inv15" .f32 0x3D888889#32 ((1 / 15 : ℝ) : EReal) rfl, algebraic⟩

end Cert.Proof

end
